-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 4096, 64, 128]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 4096, 64, 128]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x256x1024 : Shape := ⟨3, ![1, 256, 1024]⟩
abbrev S1024x8192 : Shape := ⟨2, ![1024, 8192]⟩
abbrev S1x4096x8x128 : Shape := ⟨4, ![1, 4096, 8, 128]⟩
abbrev S8192x1024 : Shape := ⟨2, ![8192, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x256x1024 .f32) (main_arg1 : FVec F S1024x8192 .f32) (main_arg2 : FVec F S1x4096x8x128 .f32) (main_arg3 : FVec F S1x4096x8x128 .f32) (main_arg4 : FVec F S8192x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x4096x8x128 .f32 := Host.absf main_arg2
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Pre_finite_inputs_ReferenceIdeal.lean ====
abbrev S1x256x1024 : Shape := ⟨3, ![1, 256, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x4096x64x128 : S_.BroadcastsInDim S1x4096x64x128 (![] : Fin 0 → Fin S1x4096x64x128.rank)
  reducesTo_S1x4096x64x128_S_d0_1_2_3 : S1x4096x64x128.ReducesTo [0, 1, 2, 3] S_

variable [Facts]

def fn {F : FTy → Type} [FloatOps F] (main_arg0 : FVec F S1x256x1024 .f32) (main_arg1 : FVec F S1024x8192 .f32) (main_arg2 : FVec F S1x4096x64x128 .f32) (main_arg3 : FVec F S1x4096x64x128 .f32) (main_arg4 : FVec F S8192x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x4096x64x128 .f32 := Host.absf main_arg2
  let main_cst_2 : FVec F S_ .f32 := constant S_ .f32 0x7F800000#32
  let main_v10 : FVec F S1x4096x64x128 .f32 := broadcastInDim S1x4096x64x128 ![] bcast_S_S1x4096x64x128 main_cst_2
  let main_v11 : IVec S1x4096x64x128 1 := cmpf .olt main_v9 main_v10
  let main_c_3 : IVec S_ 1 := constantI S_ 1 1#1
  let main_v12 : IVec S_ 1 := (fun x v => Host.reduce IntOp.andi x v reducesTo_S1x4096x64x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x8192 : Shape := ⟨2, ![1024, 8192]⟩
abbrev S1x4096x8x128 : Shape := ⟨4, ![1, 4096, 8, 128]⟩
abbrev S8192x1024 : Shape := ⟨2, ![8192, 1024]⟩
abbrev S1024x1024 : Shape := ⟨2, ![1024, 1024]⟩
abbrev S8x4096x128 : Shape := ⟨3, ![8, 4096, 128]⟩
abbrev S256x1024 : Shape := ⟨2, ![256, 1024]⟩
abbrev S8x32x1024 : Shape := ⟨3, ![8, 32, 1024]⟩
abbrev S32x1024 : Shape := ⟨2, ![32, 1024]⟩
abbrev S2 : Shape := ⟨1, ![2]⟩
abbrev S8 : Shape := ⟨1, ![8]⟩
abbrev S7 : Shape := ⟨1, ![7]⟩
abbrev S1 : Shape := ⟨1, ![1]⟩
abbrev S_ : Shape := ⟨0, ![]⟩
abbrev S1x4096x128 : Shape := ⟨3, ![1, 4096, 128]⟩
abbrev S4096x128 : Shape := ⟨2, ![4096, 128]⟩
abbrev S1x4096x1x128 : Shape := ⟨4, ![1, 4096, 1, 128]⟩
abbrev S16x4x64x128 : Shape := ⟨4, ![16, 4, 64, 128]⟩
abbrev S16x1x64x128 : Shape := ⟨4, ![16, 1, 64, 128]⟩
abbrev S16x64x128 : Shape := ⟨3, ![16, 64, 128]⟩
abbrev S1024x128 : Shape := ⟨2, ![1024, 128]⟩
abbrev S64x128 : Shape := ⟨2, ![64, 128]⟩
abbrev S128x1024 : Shape := ⟨2, ![128, 1024]⟩
abbrev S64x1024 : Shape := ⟨2, ![64, 1024]⟩
abbrev S64 : Shape := ⟨1, ![64]⟩
abbrev S64x1 : Shape := ⟨2, ![64, 1]⟩
abbrev S256x512 : Shape := ⟨2, ![256, 512]⟩
abbrev S512x1024 : Shape := ⟨2, ![512, 1024]⟩
abbrev S1x32x1024 : Shape := ⟨3, ![1, 32, 1024]⟩

abbrev nBuf : Space → Nat
  | .hbm => 6
  | .vmem => 14
  | .smem => 0
  | _ => 0

abbrev bufTy : (tb : Table) → Fin (tcTables nBuf tb) → BufTy
  | .hbm, ⟨0, _⟩ => ⟨S1x256x1024, .f32⟩
  | .hbm, ⟨1, _⟩ => ⟨S1024x8192, .f32⟩
  | .hbm, ⟨2, _⟩ => ⟨S1x4096x8x128, .f32⟩
  | .hbm, ⟨3, _⟩ => ⟨S1x4096x8x128, .f32⟩
  | .hbm, ⟨4, _⟩ => ⟨S8192x1024, .f32⟩
  | .hbm, ⟨5, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1024x1024, .f32⟩
  | .local _ .vmem, ⟨4, _⟩ => ⟨S8x4096x128, .f32⟩
  | .local _ .vmem, ⟨5, _⟩ => ⟨S8x4096x128, .f32⟩
  | .local _ .vmem, ⟨6, _⟩ => ⟨S256x1024, .bf16⟩
  | .local _ .vmem, ⟨7, _⟩ => ⟨S256x1024, .bf16⟩
  | .local _ .vmem, ⟨8, _⟩ => ⟨S8x32x1024, .bf16⟩
  | .local _ .vmem, ⟨9, _⟩ => ⟨S8x32x1024, .bf16⟩
  | .local _ .vmem, ⟨10, _⟩ => ⟨S32x1024, .f32⟩
  | .local _ .vmem, ⟨11, _⟩ => ⟨S8x32x1024, .bf16⟩
  | .local _ .vmem, ⟨12, _⟩ => ⟨S8x32x1024, .bf16⟩
  | .local _ .vmem, ⟨13, _⟩ => ⟨S8x32x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0_i32_1 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v3 : BitVec 32 := Scalar.muli v2 c1024_i32
  ![0, v3.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_0 : BitVec 32 := 1024#32
  let v4 : BitVec 32 := Scalar.muli v2 c1024_i32_0
  let c0_i32_3 : BitVec 32 := 0#32
  ![v4.toNat, 0]
def k0_dev1 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_126 : BitVec 32 := 1#32
  let v108 : BitVec 32 := Scalar.addi v2 c1_i32_126
  let c8_i32_127 : BitVec 32 := 8#32
  let c0_i32_128 : BitVec 32 := 0#32
  let v109 : BitVec 1 := Scalar.cmpi .eq c8_i32_127 c0_i32_128
  let c1_i32_129 : BitVec 32 := 1#32
  let v110 : BitVec 32 := Scalar.select v109 c1_i32_129 c8_i32_127
  let v111 : BitVec 32 := Scalar.remsi v108 v110
  let c0_i32_131 : BitVec 32 := 0#32
  let v113 : BitVec 1 := Scalar.cmpi .slt v111 c0_i32_131
  let c0_i32_132 : BitVec 32 := 0#32
  let v114 : BitVec 1 := Scalar.cmpi .slt v110 c0_i32_132
  let v115 : BitVec 1 := Scalar.xori v113 v114
  let c0_i32_130 : BitVec 32 := 0#32
  let v112 : BitVec 1 := Scalar.cmpi .ne v111 c0_i32_130
  let v116 : BitVec 1 := Scalar.andi v115 v112
  let v117 : BitVec 32 := Scalar.addi v111 v110
  let v118 : BitVec 32 := Scalar.select v116 v117 v111
  let c1_i32_134 : BitVec 32 := 1#32
  let v119 : BitVec 32 := Scalar.muli v118 c1_i32_134
  let v120 : BitVec 32 := Scalar.addi c0_i32_135 v119
  v120.toNat
def k0_dev2 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_136 : BitVec 32 := 2#32
  let v121 : BitVec 32 := Scalar.addi v2 c2_i32_136
  let c8_i32_137 : BitVec 32 := 8#32
  let c0_i32_138 : BitVec 32 := 0#32
  let v122 : BitVec 1 := Scalar.cmpi .eq c8_i32_137 c0_i32_138
  let c1_i32_139 : BitVec 32 := 1#32
  let v123 : BitVec 32 := Scalar.select v122 c1_i32_139 c8_i32_137
  let v124 : BitVec 32 := Scalar.remsi v121 v123
  let c0_i32_141 : BitVec 32 := 0#32
  let v126 : BitVec 1 := Scalar.cmpi .slt v124 c0_i32_141
  let c0_i32_142 : BitVec 32 := 0#32
  let v127 : BitVec 1 := Scalar.cmpi .slt v123 c0_i32_142
  let v128 : BitVec 1 := Scalar.xori v126 v127
  let c0_i32_140 : BitVec 32 := 0#32
  let v125 : BitVec 1 := Scalar.cmpi .ne v124 c0_i32_140
  let v129 : BitVec 1 := Scalar.andi v128 v125
  let v130 : BitVec 32 := Scalar.addi v124 v123
  let v131 : BitVec 32 := Scalar.select v129 v130 v124
  let c1_i32_144 : BitVec 32 := 1#32
  let v132 : BitVec 32 := Scalar.muli v131 c1_i32_144
  let v133 : BitVec 32 := Scalar.addi c0_i32_145 v132
  v133.toNat
def k0_dev3 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_146 : BitVec 32 := 3#32
  let v134 : BitVec 32 := Scalar.addi v2 c3_i32_146
  let c8_i32_147 : BitVec 32 := 8#32
  let c0_i32_148 : BitVec 32 := 0#32
  let v135 : BitVec 1 := Scalar.cmpi .eq c8_i32_147 c0_i32_148
  let c1_i32_149 : BitVec 32 := 1#32
  let v136 : BitVec 32 := Scalar.select v135 c1_i32_149 c8_i32_147
  let v137 : BitVec 32 := Scalar.remsi v134 v136
  let c0_i32_151 : BitVec 32 := 0#32
  let v139 : BitVec 1 := Scalar.cmpi .slt v137 c0_i32_151
  let c0_i32_152 : BitVec 32 := 0#32
  let v140 : BitVec 1 := Scalar.cmpi .slt v136 c0_i32_152
  let v141 : BitVec 1 := Scalar.xori v139 v140
  let c0_i32_150 : BitVec 32 := 0#32
  let v138 : BitVec 1 := Scalar.cmpi .ne v137 c0_i32_150
  let v142 : BitVec 1 := Scalar.andi v141 v138
  let v143 : BitVec 32 := Scalar.addi v137 v136
  let v144 : BitVec 32 := Scalar.select v142 v143 v137
  let c1_i32_154 : BitVec 32 := 1#32
  let v145 : BitVec 32 := Scalar.muli v144 c1_i32_154
  let v146 : BitVec 32 := Scalar.addi c0_i32_155 v145
  v146.toNat
def k0_dev4 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_156 : BitVec 32 := 4#32
  let v147 : BitVec 32 := Scalar.addi v2 c4_i32_156
  let c8_i32_157 : BitVec 32 := 8#32
  let c0_i32_158 : BitVec 32 := 0#32
  let v148 : BitVec 1 := Scalar.cmpi .eq c8_i32_157 c0_i32_158
  let c1_i32_159 : BitVec 32 := 1#32
  let v149 : BitVec 32 := Scalar.select v148 c1_i32_159 c8_i32_157
  let v150 : BitVec 32 := Scalar.remsi v147 v149
  let c0_i32_161 : BitVec 32 := 0#32
  let v152 : BitVec 1 := Scalar.cmpi .slt v150 c0_i32_161
  let c0_i32_162 : BitVec 32 := 0#32
  let v153 : BitVec 1 := Scalar.cmpi .slt v149 c0_i32_162
  let v154 : BitVec 1 := Scalar.xori v152 v153
  let c0_i32_160 : BitVec 32 := 0#32
  let v151 : BitVec 1 := Scalar.cmpi .ne v150 c0_i32_160
  let v155 : BitVec 1 := Scalar.andi v154 v151
  let v156 : BitVec 32 := Scalar.addi v150 v149
  let v157 : BitVec 32 := Scalar.select v155 v156 v150
  let c1_i32_164 : BitVec 32 := 1#32
  let v158 : BitVec 32 := Scalar.muli v157 c1_i32_164
  let v159 : BitVec 32 := Scalar.addi c0_i32_165 v158
  v159.toNat
def k0_dev5 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_166 : BitVec 32 := 5#32
  let v160 : BitVec 32 := Scalar.addi v2 c5_i32_166
  let c8_i32_167 : BitVec 32 := 8#32
  let c0_i32_168 : BitVec 32 := 0#32
  let v161 : BitVec 1 := Scalar.cmpi .eq c8_i32_167 c0_i32_168
  let c1_i32_169 : BitVec 32 := 1#32
  let v162 : BitVec 32 := Scalar.select v161 c1_i32_169 c8_i32_167
  let v163 : BitVec 32 := Scalar.remsi v160 v162
  let c0_i32_171 : BitVec 32 := 0#32
  let v165 : BitVec 1 := Scalar.cmpi .slt v163 c0_i32_171
  let c0_i32_172 : BitVec 32 := 0#32
  let v166 : BitVec 1 := Scalar.cmpi .slt v162 c0_i32_172
  let v167 : BitVec 1 := Scalar.xori v165 v166
  let c0_i32_170 : BitVec 32 := 0#32
  let v164 : BitVec 1 := Scalar.cmpi .ne v163 c0_i32_170
  let v168 : BitVec 1 := Scalar.andi v167 v164
  let v169 : BitVec 32 := Scalar.addi v163 v162
  let v170 : BitVec 32 := Scalar.select v168 v169 v163
  let c1_i32_174 : BitVec 32 := 1#32
  let v171 : BitVec 32 := Scalar.muli v170 c1_i32_174
  let v172 : BitVec 32 := Scalar.addi c0_i32_175 v171
  v172.toNat
def k0_dev6 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_176 : BitVec 32 := 6#32
  let v173 : BitVec 32 := Scalar.addi v2 c6_i32_176
  let c8_i32_177 : BitVec 32 := 8#32
  let c0_i32_178 : BitVec 32 := 0#32
  let v174 : BitVec 1 := Scalar.cmpi .eq c8_i32_177 c0_i32_178
  let c1_i32_179 : BitVec 32 := 1#32
  let v175 : BitVec 32 := Scalar.select v174 c1_i32_179 c8_i32_177
  let v176 : BitVec 32 := Scalar.remsi v173 v175
  let c0_i32_181 : BitVec 32 := 0#32
  let v178 : BitVec 1 := Scalar.cmpi .slt v176 c0_i32_181
  let c0_i32_182 : BitVec 32 := 0#32
  let v179 : BitVec 1 := Scalar.cmpi .slt v175 c0_i32_182
  let v180 : BitVec 1 := Scalar.xori v178 v179
  let c0_i32_180 : BitVec 32 := 0#32
  let v177 : BitVec 1 := Scalar.cmpi .ne v176 c0_i32_180
  let v181 : BitVec 1 := Scalar.andi v180 v177
  let v182 : BitVec 32 := Scalar.addi v176 v175
  let v183 : BitVec 32 := Scalar.select v181 v182 v176
  let c1_i32_184 : BitVec 32 := 1#32
  let v184 : BitVec 32 := Scalar.muli v183 c1_i32_184
  let v185 : BitVec 32 := Scalar.addi c0_i32_185 v184
  v185.toNat
def k0_dev7 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_186 : BitVec 32 := 7#32
  let v186 : BitVec 32 := Scalar.addi v2 c7_i32_186
  let c8_i32_187 : BitVec 32 := 8#32
  let c0_i32_188 : BitVec 32 := 0#32
  let v187 : BitVec 1 := Scalar.cmpi .eq c8_i32_187 c0_i32_188
  let c1_i32_189 : BitVec 32 := 1#32
  let v188 : BitVec 32 := Scalar.select v187 c1_i32_189 c8_i32_187
  let v189 : BitVec 32 := Scalar.remsi v186 v188
  let c0_i32_191 : BitVec 32 := 0#32
  let v191 : BitVec 1 := Scalar.cmpi .slt v189 c0_i32_191
  let c0_i32_192 : BitVec 32 := 0#32
  let v192 : BitVec 1 := Scalar.cmpi .slt v188 c0_i32_192
  let v193 : BitVec 1 := Scalar.xori v191 v192
  let c0_i32_190 : BitVec 32 := 0#32
  let v190 : BitVec 1 := Scalar.cmpi .ne v189 c0_i32_190
  let v194 : BitVec 1 := Scalar.andi v193 v190
  let v195 : BitVec 32 := Scalar.addi v189 v188
  let v196 : BitVec 32 := Scalar.select v194 v195 v189
  let c1_i32_194 : BitVec 32 := 1#32
  let v197 : BitVec 32 := Scalar.muli v196 c1_i32_194
  let v198 : BitVec 32 := Scalar.addi c0_i32_195 v197
  v198.toNat
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_434 : BitVec 32 := 0#32
  let c0_i32_435 : BitVec 32 := 0#32
  ![v2.toNat, 0, 0]
def k0_off5 (d0 : Dev nD) (c4_i32_424 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v682 : BitVec 32 := Scalar.addi v2 c4_i32_424
  let c8_i32_425 : BitVec 32 := 8#32
  let c0_i32_426 : BitVec 32 := 0#32
  let v683 : BitVec 1 := Scalar.cmpi .eq c8_i32_425 c0_i32_426
  let c1_i32_427 : BitVec 32 := 1#32
  let v684 : BitVec 32 := Scalar.select v683 c1_i32_427 c8_i32_425
  let v685 : BitVec 32 := Scalar.remsi v682 v684
  let c0_i32_429 : BitVec 32 := 0#32
  let v687 : BitVec 1 := Scalar.cmpi .slt v685 c0_i32_429
  let c0_i32_430 : BitVec 32 := 0#32
  let v688 : BitVec 1 := Scalar.cmpi .slt v684 c0_i32_430
  let v689 : BitVec 1 := Scalar.xori v687 v688
  let c0_i32_428 : BitVec 32 := 0#32
  let v686 : BitVec 1 := Scalar.cmpi .ne v685 c0_i32_428
  let v690 : BitVec 1 := Scalar.andi v689 v686
  let v691 : BitVec 32 := Scalar.addi v685 v684
  let v692 : BitVec 32 := Scalar.select v690 v691 v685
  let c0_i32_436 : BitVec 32 := 0#32
  let c0_i32_437 : BitVec 32 := 0#32
  ![v692.toNat, 0, 0]
def k0_dev8 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_424 : BitVec 32 := 4#32
  let v682 : BitVec 32 := Scalar.addi v2 c4_i32_424
  let c8_i32_425 : BitVec 32 := 8#32
  let c0_i32_426 : BitVec 32 := 0#32
  let v683 : BitVec 1 := Scalar.cmpi .eq c8_i32_425 c0_i32_426
  let c1_i32_427 : BitVec 32 := 1#32
  let v684 : BitVec 32 := Scalar.select v683 c1_i32_427 c8_i32_425
  let v685 : BitVec 32 := Scalar.remsi v682 v684
  let c0_i32_429 : BitVec 32 := 0#32
  let v687 : BitVec 1 := Scalar.cmpi .slt v685 c0_i32_429
  let c0_i32_430 : BitVec 32 := 0#32
  let v688 : BitVec 1 := Scalar.cmpi .slt v684 c0_i32_430
  let v689 : BitVec 1 := Scalar.xori v687 v688
  let c0_i32_428 : BitVec 32 := 0#32
  let v686 : BitVec 1 := Scalar.cmpi .ne v685 c0_i32_428
  let v690 : BitVec 1 := Scalar.andi v689 v686
  let v691 : BitVec 32 := Scalar.addi v685 v684
  let v692 : BitVec 32 := Scalar.select v690 v691 v685
  let c1_i32_432 : BitVec 32 := 1#32
  let v693 : BitVec 32 := Scalar.muli v692 c1_i32_432
  let v694 : BitVec 32 := Scalar.addi c0_i32_433 v693
  v694.toNat
def k0_dev9 (d0 : Dev nD) : Nat :=
  let c0_i32_447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_438 : BitVec 32 := 3#32
  let v701 : BitVec 32 := Scalar.addi v2 c3_i32_438
  let c8_i32_439 : BitVec 32 := 8#32
  let c0_i32_440 : BitVec 32 := 0#32
  let v702 : BitVec 1 := Scalar.cmpi .eq c8_i32_439 c0_i32_440
  let c1_i32_441 : BitVec 32 := 1#32
  let v703 : BitVec 32 := Scalar.select v702 c1_i32_441 c8_i32_439
  let v704 : BitVec 32 := Scalar.remsi v701 v703
  let c0_i32_443 : BitVec 32 := 0#32
  let v706 : BitVec 1 := Scalar.cmpi .slt v704 c0_i32_443
  let c0_i32_444 : BitVec 32 := 0#32
  let v707 : BitVec 1 := Scalar.cmpi .slt v703 c0_i32_444
  let v708 : BitVec 1 := Scalar.xori v706 v707
  let c0_i32_442 : BitVec 32 := 0#32
  let v705 : BitVec 1 := Scalar.cmpi .ne v704 c0_i32_442
  let v709 : BitVec 1 := Scalar.andi v708 v705
  let v710 : BitVec 32 := Scalar.addi v704 v703
  let v711 : BitVec 32 := Scalar.select v709 v710 v704
  let c1_i32_446 : BitVec 32 := 1#32
  let v712 : BitVec 32 := Scalar.muli v711 c1_i32_446
  let v713 : BitVec 32 := Scalar.addi c0_i32_447 v712
  v713.toNat
def k0_dev10 (d0 : Dev nD) : Nat :=
  let c0_i32_461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_452 : BitVec 32 := 5#32
  let v720 : BitVec 32 := Scalar.addi v2 c5_i32_452
  let c8_i32_453 : BitVec 32 := 8#32
  let c0_i32_454 : BitVec 32 := 0#32
  let v721 : BitVec 1 := Scalar.cmpi .eq c8_i32_453 c0_i32_454
  let c1_i32_455 : BitVec 32 := 1#32
  let v722 : BitVec 32 := Scalar.select v721 c1_i32_455 c8_i32_453
  let v723 : BitVec 32 := Scalar.remsi v720 v722
  let c0_i32_457 : BitVec 32 := 0#32
  let v725 : BitVec 1 := Scalar.cmpi .slt v723 c0_i32_457
  let c0_i32_458 : BitVec 32 := 0#32
  let v726 : BitVec 1 := Scalar.cmpi .slt v722 c0_i32_458
  let v727 : BitVec 1 := Scalar.xori v725 v726
  let c0_i32_456 : BitVec 32 := 0#32
  let v724 : BitVec 1 := Scalar.cmpi .ne v723 c0_i32_456
  let v728 : BitVec 1 := Scalar.andi v727 v724
  let v729 : BitVec 32 := Scalar.addi v723 v722
  let v730 : BitVec 32 := Scalar.select v728 v729 v723
  let c1_i32_460 : BitVec 32 := 1#32
  let v731 : BitVec 32 := Scalar.muli v730 c1_i32_460
  let v732 : BitVec 32 := Scalar.addi c0_i32_461 v731
  v732.toNat
def k0_dev11 (d0 : Dev nD) : Nat :=
  let c0_i32_475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_466 : BitVec 32 := 2#32
  let v739 : BitVec 32 := Scalar.addi v2 c2_i32_466
  let c8_i32_467 : BitVec 32 := 8#32
  let c0_i32_468 : BitVec 32 := 0#32
  let v740 : BitVec 1 := Scalar.cmpi .eq c8_i32_467 c0_i32_468
  let c1_i32_469 : BitVec 32 := 1#32
  let v741 : BitVec 32 := Scalar.select v740 c1_i32_469 c8_i32_467
  let v742 : BitVec 32 := Scalar.remsi v739 v741
  let c0_i32_471 : BitVec 32 := 0#32
  let v744 : BitVec 1 := Scalar.cmpi .slt v742 c0_i32_471
  let c0_i32_472 : BitVec 32 := 0#32
  let v745 : BitVec 1 := Scalar.cmpi .slt v741 c0_i32_472
  let v746 : BitVec 1 := Scalar.xori v744 v745
  let c0_i32_470 : BitVec 32 := 0#32
  let v743 : BitVec 1 := Scalar.cmpi .ne v742 c0_i32_470
  let v747 : BitVec 1 := Scalar.andi v746 v743
  let v748 : BitVec 32 := Scalar.addi v742 v741
  let v749 : BitVec 32 := Scalar.select v747 v748 v742
  let c1_i32_474 : BitVec 32 := 1#32
  let v750 : BitVec 32 := Scalar.muli v749 c1_i32_474
  let v751 : BitVec 32 := Scalar.addi c0_i32_475 v750
  v751.toNat
def k0_dev12 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_480 : BitVec 32 := 6#32
  let v758 : BitVec 32 := Scalar.addi v2 c6_i32_480
  let c8_i32_481 : BitVec 32 := 8#32
  let c0_i32_482 : BitVec 32 := 0#32
  let v759 : BitVec 1 := Scalar.cmpi .eq c8_i32_481 c0_i32_482
  let c1_i32_483 : BitVec 32 := 1#32
  let v760 : BitVec 32 := Scalar.select v759 c1_i32_483 c8_i32_481
  let v761 : BitVec 32 := Scalar.remsi v758 v760
  let c0_i32_485 : BitVec 32 := 0#32
  let v763 : BitVec 1 := Scalar.cmpi .slt v761 c0_i32_485
  let c0_i32_486 : BitVec 32 := 0#32
  let v764 : BitVec 1 := Scalar.cmpi .slt v760 c0_i32_486
  let v765 : BitVec 1 := Scalar.xori v763 v764
  let c0_i32_484 : BitVec 32 := 0#32
  let v762 : BitVec 1 := Scalar.cmpi .ne v761 c0_i32_484
  let v766 : BitVec 1 := Scalar.andi v765 v762
  let v767 : BitVec 32 := Scalar.addi v761 v760
  let v768 : BitVec 32 := Scalar.select v766 v767 v761
  let c1_i32_488 : BitVec 32 := 1#32
  let v769 : BitVec 32 := Scalar.muli v768 c1_i32_488
  let v770 : BitVec 32 := Scalar.addi c0_i32_489 v769
  v770.toNat
def k0_dev13 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_494 : BitVec 32 := 1#32
  let v777 : BitVec 32 := Scalar.addi v2 c1_i32_494
  let c8_i32_495 : BitVec 32 := 8#32
  let c0_i32_496 : BitVec 32 := 0#32
  let v778 : BitVec 1 := Scalar.cmpi .eq c8_i32_495 c0_i32_496
  let c1_i32_497 : BitVec 32 := 1#32
  let v779 : BitVec 32 := Scalar.select v778 c1_i32_497 c8_i32_495
  let v780 : BitVec 32 := Scalar.remsi v777 v779
  let c0_i32_499 : BitVec 32 := 0#32
  let v782 : BitVec 1 := Scalar.cmpi .slt v780 c0_i32_499
  let c0_i32_500 : BitVec 32 := 0#32
  let v783 : BitVec 1 := Scalar.cmpi .slt v779 c0_i32_500
  let v784 : BitVec 1 := Scalar.xori v782 v783
  let c0_i32_498 : BitVec 32 := 0#32
  let v781 : BitVec 1 := Scalar.cmpi .ne v780 c0_i32_498
  let v785 : BitVec 1 := Scalar.andi v784 v781
  let v786 : BitVec 32 := Scalar.addi v780 v779
  let v787 : BitVec 32 := Scalar.select v785 v786 v780
  let c1_i32_502 : BitVec 32 := 1#32
  let v788 : BitVec 32 := Scalar.muli v787 c1_i32_502
  let v789 : BitVec 32 := Scalar.addi c0_i32_503 v788
  v789.toNat
def k0_dev14 (d0 : Dev nD) : Nat :=
  let c0_i32_517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_508 : BitVec 32 := 7#32
  let v796 : BitVec 32 := Scalar.addi v2 c7_i32_508
  let c8_i32_509 : BitVec 32 := 8#32
  let c0_i32_510 : BitVec 32 := 0#32
  let v797 : BitVec 1 := Scalar.cmpi .eq c8_i32_509 c0_i32_510
  let c1_i32_511 : BitVec 32 := 1#32
  let v798 : BitVec 32 := Scalar.select v797 c1_i32_511 c8_i32_509
  let v799 : BitVec 32 := Scalar.remsi v796 v798
  let c0_i32_513 : BitVec 32 := 0#32
  let v801 : BitVec 1 := Scalar.cmpi .slt v799 c0_i32_513
  let c0_i32_514 : BitVec 32 := 0#32
  let v802 : BitVec 1 := Scalar.cmpi .slt v798 c0_i32_514
  let v803 : BitVec 1 := Scalar.xori v801 v802
  let c0_i32_512 : BitVec 32 := 0#32
  let v800 : BitVec 1 := Scalar.cmpi .ne v799 c0_i32_512
  let v804 : BitVec 1 := Scalar.andi v803 v800
  let v805 : BitVec 32 := Scalar.addi v799 v798
  let v806 : BitVec 32 := Scalar.select v804 v805 v799
  let c1_i32_516 : BitVec 32 := 1#32
  let v807 : BitVec 32 := Scalar.muli v806 c1_i32_516
  let v808 : BitVec 32 := Scalar.addi c0_i32_517 v807
  v808.toNat
def k0_dev15 (d0 : Dev nD) : Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_738 : BitVec 32 := 4#32
  let v1280 : BitVec 32 := Scalar.addi v2 c4_i32_738
  let c8_i32_739 : BitVec 32 := 8#32
  let c0_i32_740 : BitVec 32 := 0#32
  let v1281 : BitVec 1 := Scalar.cmpi .eq c8_i32_739 c0_i32_740
  let c1_i32_741 : BitVec 32 := 1#32
  let v1282 : BitVec 32 := Scalar.select v1281 c1_i32_741 c8_i32_739
  let v1283 : BitVec 32 := Scalar.remsi v1280 v1282
  let c0_i32_743 : BitVec 32 := 0#32
  let v1285 : BitVec 1 := Scalar.cmpi .slt v1283 c0_i32_743
  let c0_i32_744 : BitVec 32 := 0#32
  let v1286 : BitVec 1 := Scalar.cmpi .slt v1282 c0_i32_744
  let v1287 : BitVec 1 := Scalar.xori v1285 v1286
  let c0_i32_742 : BitVec 32 := 0#32
  let v1284 : BitVec 1 := Scalar.cmpi .ne v1283 c0_i32_742
  let v1288 : BitVec 1 := Scalar.andi v1287 v1284
  let v1289 : BitVec 32 := Scalar.addi v1283 v1282
  let v1290 : BitVec 32 := Scalar.select v1288 v1289 v1283
  let c1_i32_746 : BitVec 32 := 1#32
  let v1291 : BitVec 32 := Scalar.muli v1290 c1_i32_746
  let v1292 : BitVec 32 := Scalar.addi c0_i32_747 v1291
  v1292.toNat
def k0_dev16 (d0 : Dev nD) : Nat :=
  let c0_i32_761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_752 : BitVec 32 := 3#32
  let v1299 : BitVec 32 := Scalar.addi v2 c3_i32_752
  let c8_i32_753 : BitVec 32 := 8#32
  let c0_i32_754 : BitVec 32 := 0#32
  let v1300 : BitVec 1 := Scalar.cmpi .eq c8_i32_753 c0_i32_754
  let c1_i32_755 : BitVec 32 := 1#32
  let v1301 : BitVec 32 := Scalar.select v1300 c1_i32_755 c8_i32_753
  let v1302 : BitVec 32 := Scalar.remsi v1299 v1301
  let c0_i32_757 : BitVec 32 := 0#32
  let v1304 : BitVec 1 := Scalar.cmpi .slt v1302 c0_i32_757
  let c0_i32_758 : BitVec 32 := 0#32
  let v1305 : BitVec 1 := Scalar.cmpi .slt v1301 c0_i32_758
  let v1306 : BitVec 1 := Scalar.xori v1304 v1305
  let c0_i32_756 : BitVec 32 := 0#32
  let v1303 : BitVec 1 := Scalar.cmpi .ne v1302 c0_i32_756
  let v1307 : BitVec 1 := Scalar.andi v1306 v1303
  let v1308 : BitVec 32 := Scalar.addi v1302 v1301
  let v1309 : BitVec 32 := Scalar.select v1307 v1308 v1302
  let c1_i32_760 : BitVec 32 := 1#32
  let v1310 : BitVec 32 := Scalar.muli v1309 c1_i32_760
  let v1311 : BitVec 32 := Scalar.addi c0_i32_761 v1310
  v1311.toNat
def k0_dev17 (d0 : Dev nD) : Nat :=
  let c0_i32_775 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_766 : BitVec 32 := 5#32
  let v1318 : BitVec 32 := Scalar.addi v2 c5_i32_766
  let c8_i32_767 : BitVec 32 := 8#32
  let c0_i32_768 : BitVec 32 := 0#32
  let v1319 : BitVec 1 := Scalar.cmpi .eq c8_i32_767 c0_i32_768
  let c1_i32_769 : BitVec 32 := 1#32
  let v1320 : BitVec 32 := Scalar.select v1319 c1_i32_769 c8_i32_767
  let v1321 : BitVec 32 := Scalar.remsi v1318 v1320
  let c0_i32_771 : BitVec 32 := 0#32
  let v1323 : BitVec 1 := Scalar.cmpi .slt v1321 c0_i32_771
  let c0_i32_772 : BitVec 32 := 0#32
  let v1324 : BitVec 1 := Scalar.cmpi .slt v1320 c0_i32_772
  let v1325 : BitVec 1 := Scalar.xori v1323 v1324
  let c0_i32_770 : BitVec 32 := 0#32
  let v1322 : BitVec 1 := Scalar.cmpi .ne v1321 c0_i32_770
  let v1326 : BitVec 1 := Scalar.andi v1325 v1322
  let v1327 : BitVec 32 := Scalar.addi v1321 v1320
  let v1328 : BitVec 32 := Scalar.select v1326 v1327 v1321
  let c1_i32_774 : BitVec 32 := 1#32
  let v1329 : BitVec 32 := Scalar.muli v1328 c1_i32_774
  let v1330 : BitVec 32 := Scalar.addi c0_i32_775 v1329
  v1330.toNat
def k0_dev18 (d0 : Dev nD) : Nat :=
  let c0_i32_789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_780 : BitVec 32 := 2#32
  let v1337 : BitVec 32 := Scalar.addi v2 c2_i32_780
  let c8_i32_781 : BitVec 32 := 8#32
  let c0_i32_782 : BitVec 32 := 0#32
  let v1338 : BitVec 1 := Scalar.cmpi .eq c8_i32_781 c0_i32_782
  let c1_i32_783 : BitVec 32 := 1#32
  let v1339 : BitVec 32 := Scalar.select v1338 c1_i32_783 c8_i32_781
  let v1340 : BitVec 32 := Scalar.remsi v1337 v1339
  let c0_i32_785 : BitVec 32 := 0#32
  let v1342 : BitVec 1 := Scalar.cmpi .slt v1340 c0_i32_785
  let c0_i32_786 : BitVec 32 := 0#32
  let v1343 : BitVec 1 := Scalar.cmpi .slt v1339 c0_i32_786
  let v1344 : BitVec 1 := Scalar.xori v1342 v1343
  let c0_i32_784 : BitVec 32 := 0#32
  let v1341 : BitVec 1 := Scalar.cmpi .ne v1340 c0_i32_784
  let v1345 : BitVec 1 := Scalar.andi v1344 v1341
  let v1346 : BitVec 32 := Scalar.addi v1340 v1339
  let v1347 : BitVec 32 := Scalar.select v1345 v1346 v1340
  let c1_i32_788 : BitVec 32 := 1#32
  let v1348 : BitVec 32 := Scalar.muli v1347 c1_i32_788
  let v1349 : BitVec 32 := Scalar.addi c0_i32_789 v1348
  v1349.toNat
def k0_dev19 (d0 : Dev nD) : Nat :=
  let c0_i32_803 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_794 : BitVec 32 := 6#32
  let v1356 : BitVec 32 := Scalar.addi v2 c6_i32_794
  let c8_i32_795 : BitVec 32 := 8#32
  let c0_i32_796 : BitVec 32 := 0#32
  let v1357 : BitVec 1 := Scalar.cmpi .eq c8_i32_795 c0_i32_796
  let c1_i32_797 : BitVec 32 := 1#32
  let v1358 : BitVec 32 := Scalar.select v1357 c1_i32_797 c8_i32_795
  let v1359 : BitVec 32 := Scalar.remsi v1356 v1358
  let c0_i32_799 : BitVec 32 := 0#32
  let v1361 : BitVec 1 := Scalar.cmpi .slt v1359 c0_i32_799
  let c0_i32_800 : BitVec 32 := 0#32
  let v1362 : BitVec 1 := Scalar.cmpi .slt v1358 c0_i32_800
  let v1363 : BitVec 1 := Scalar.xori v1361 v1362
  let c0_i32_798 : BitVec 32 := 0#32
  let v1360 : BitVec 1 := Scalar.cmpi .ne v1359 c0_i32_798
  let v1364 : BitVec 1 := Scalar.andi v1363 v1360
  let v1365 : BitVec 32 := Scalar.addi v1359 v1358
  let v1366 : BitVec 32 := Scalar.select v1364 v1365 v1359
  let c1_i32_802 : BitVec 32 := 1#32
  let v1367 : BitVec 32 := Scalar.muli v1366 c1_i32_802
  let v1368 : BitVec 32 := Scalar.addi c0_i32_803 v1367
  v1368.toNat
def k0_dev20 (d0 : Dev nD) : Nat :=
  let c0_i32_817 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_808 : BitVec 32 := 1#32
  let v1375 : BitVec 32 := Scalar.addi v2 c1_i32_808
  let c8_i32_809 : BitVec 32 := 8#32
  let c0_i32_810 : BitVec 32 := 0#32
  let v1376 : BitVec 1 := Scalar.cmpi .eq c8_i32_809 c0_i32_810
  let c1_i32_811 : BitVec 32 := 1#32
  let v1377 : BitVec 32 := Scalar.select v1376 c1_i32_811 c8_i32_809
  let v1378 : BitVec 32 := Scalar.remsi v1375 v1377
  let c0_i32_813 : BitVec 32 := 0#32
  let v1380 : BitVec 1 := Scalar.cmpi .slt v1378 c0_i32_813
  let c0_i32_814 : BitVec 32 := 0#32
  let v1381 : BitVec 1 := Scalar.cmpi .slt v1377 c0_i32_814
  let v1382 : BitVec 1 := Scalar.xori v1380 v1381
  let c0_i32_812 : BitVec 32 := 0#32
  let v1379 : BitVec 1 := Scalar.cmpi .ne v1378 c0_i32_812
  let v1383 : BitVec 1 := Scalar.andi v1382 v1379
  let v1384 : BitVec 32 := Scalar.addi v1378 v1377
  let v1385 : BitVec 32 := Scalar.select v1383 v1384 v1378
  let c1_i32_816 : BitVec 32 := 1#32
  let v1386 : BitVec 32 := Scalar.muli v1385 c1_i32_816
  let v1387 : BitVec 32 := Scalar.addi c0_i32_817 v1386
  v1387.toNat
def k0_dev21 (d0 : Dev nD) : Nat :=
  let c0_i32_831 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_822 : BitVec 32 := 7#32
  let v1394 : BitVec 32 := Scalar.addi v2 c7_i32_822
  let c8_i32_823 : BitVec 32 := 8#32
  let c0_i32_824 : BitVec 32 := 0#32
  let v1395 : BitVec 1 := Scalar.cmpi .eq c8_i32_823 c0_i32_824
  let c1_i32_825 : BitVec 32 := 1#32
  let v1396 : BitVec 32 := Scalar.select v1395 c1_i32_825 c8_i32_823
  let v1397 : BitVec 32 := Scalar.remsi v1394 v1396
  let c0_i32_827 : BitVec 32 := 0#32
  let v1399 : BitVec 1 := Scalar.cmpi .slt v1397 c0_i32_827
  let c0_i32_828 : BitVec 32 := 0#32
  let v1400 : BitVec 1 := Scalar.cmpi .slt v1396 c0_i32_828
  let v1401 : BitVec 1 := Scalar.xori v1399 v1400
  let c0_i32_826 : BitVec 32 := 0#32
  let v1398 : BitVec 1 := Scalar.cmpi .ne v1397 c0_i32_826
  let v1402 : BitVec 1 := Scalar.andi v1401 v1398
  let v1403 : BitVec 32 := Scalar.addi v1397 v1396
  let v1404 : BitVec 32 := Scalar.select v1402 v1403 v1397
  let c1_i32_830 : BitVec 32 := 1#32
  let v1405 : BitVec 32 := Scalar.muli v1404 c1_i32_830
  let v1406 : BitVec 32 := Scalar.addi c0_i32_831 v1405
  v1406.toNat
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1413 : Index := Scalar.indexCast v2
  let c0_836 : Index := 0#32
  let c0_837 : Index := 0#32
  ![v1413.toNat, 0, 0]
def k0_off7 (d0 : Dev nD) (c1_i32_842 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1425 : BitVec 32 := Scalar.addi v2 c1_i32_842
  let c8_i32_843 : BitVec 32 := 8#32
  let c0_i32_844 : BitVec 32 := 0#32
  let v1426 : BitVec 1 := Scalar.cmpi .eq c8_i32_843 c0_i32_844
  let c1_i32_845 : BitVec 32 := 1#32
  let v1427 : BitVec 32 := Scalar.select v1426 c1_i32_845 c8_i32_843
  let v1428 : BitVec 32 := Scalar.remsi v1425 v1427
  let c0_i32_847 : BitVec 32 := 0#32
  let v1430 : BitVec 1 := Scalar.cmpi .slt v1428 c0_i32_847
  let c0_i32_848 : BitVec 32 := 0#32
  let v1431 : BitVec 1 := Scalar.cmpi .slt v1427 c0_i32_848
  let v1432 : BitVec 1 := Scalar.xori v1430 v1431
  let c0_i32_846 : BitVec 32 := 0#32
  let v1429 : BitVec 1 := Scalar.cmpi .ne v1428 c0_i32_846
  let v1433 : BitVec 1 := Scalar.andi v1432 v1429
  let v1434 : BitVec 32 := Scalar.addi v1428 v1427
  let v1435 : BitVec 32 := Scalar.select v1433 v1434 v1428
  ![v1435.toNat]
def k0_off8 (d0 : Dev nD) (c1_i32_842 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1425 : BitVec 32 := Scalar.addi v2 c1_i32_842
  let c8_i32_843 : BitVec 32 := 8#32
  let c0_i32_844 : BitVec 32 := 0#32
  let v1426 : BitVec 1 := Scalar.cmpi .eq c8_i32_843 c0_i32_844
  let c1_i32_845 : BitVec 32 := 1#32
  let v1427 : BitVec 32 := Scalar.select v1426 c1_i32_845 c8_i32_843
  let v1428 : BitVec 32 := Scalar.remsi v1425 v1427
  let c0_i32_847 : BitVec 32 := 0#32
  let v1430 : BitVec 1 := Scalar.cmpi .slt v1428 c0_i32_847
  let c0_i32_848 : BitVec 32 := 0#32
  let v1431 : BitVec 1 := Scalar.cmpi .slt v1427 c0_i32_848
  let v1432 : BitVec 1 := Scalar.xori v1430 v1431
  let c0_i32_846 : BitVec 32 := 0#32
  let v1429 : BitVec 1 := Scalar.cmpi .ne v1428 c0_i32_846
  let v1433 : BitVec 1 := Scalar.andi v1432 v1429
  let v1434 : BitVec 32 := Scalar.addi v1428 v1427
  let v1435 : BitVec 32 := Scalar.select v1433 v1434 v1428
  let v1443 : Index := Scalar.indexCast v1435
  let c0_858 : Index := 0#32
  let c0_859 : Index := 0#32
  ![v1443.toNat, 0, 0]
def k0_dev22 (d0 : Dev nD) : Nat :=
  let c0_i32_1135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1126 : BitVec 32 := 4#32
  let v1796 : BitVec 32 := Scalar.addi v2 c4_i32_1126
  let c8_i32_1127 : BitVec 32 := 8#32
  let c0_i32_1128 : BitVec 32 := 0#32
  let v1797 : BitVec 1 := Scalar.cmpi .eq c8_i32_1127 c0_i32_1128
  let c1_i32_1129 : BitVec 32 := 1#32
  let v1798 : BitVec 32 := Scalar.select v1797 c1_i32_1129 c8_i32_1127
  let v1799 : BitVec 32 := Scalar.remsi v1796 v1798
  let c0_i32_1131 : BitVec 32 := 0#32
  let v1801 : BitVec 1 := Scalar.cmpi .slt v1799 c0_i32_1131
  let c0_i32_1132 : BitVec 32 := 0#32
  let v1802 : BitVec 1 := Scalar.cmpi .slt v1798 c0_i32_1132
  let v1803 : BitVec 1 := Scalar.xori v1801 v1802
  let c0_i32_1130 : BitVec 32 := 0#32
  let v1800 : BitVec 1 := Scalar.cmpi .ne v1799 c0_i32_1130
  let v1804 : BitVec 1 := Scalar.andi v1803 v1800
  let v1805 : BitVec 32 := Scalar.addi v1799 v1798
  let v1806 : BitVec 32 := Scalar.select v1804 v1805 v1799
  let c1_i32_1134 : BitVec 32 := 1#32
  let v1807 : BitVec 32 := Scalar.muli v1806 c1_i32_1134
  let v1808 : BitVec 32 := Scalar.addi c0_i32_1135 v1807
  v1808.toNat
def k0_dev23 (d0 : Dev nD) : Nat :=
  let c0_i32_1149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1140 : BitVec 32 := 3#32
  let v1815 : BitVec 32 := Scalar.addi v2 c3_i32_1140
  let c8_i32_1141 : BitVec 32 := 8#32
  let c0_i32_1142 : BitVec 32 := 0#32
  let v1816 : BitVec 1 := Scalar.cmpi .eq c8_i32_1141 c0_i32_1142
  let c1_i32_1143 : BitVec 32 := 1#32
  let v1817 : BitVec 32 := Scalar.select v1816 c1_i32_1143 c8_i32_1141
  let v1818 : BitVec 32 := Scalar.remsi v1815 v1817
  let c0_i32_1145 : BitVec 32 := 0#32
  let v1820 : BitVec 1 := Scalar.cmpi .slt v1818 c0_i32_1145
  let c0_i32_1146 : BitVec 32 := 0#32
  let v1821 : BitVec 1 := Scalar.cmpi .slt v1817 c0_i32_1146
  let v1822 : BitVec 1 := Scalar.xori v1820 v1821
  let c0_i32_1144 : BitVec 32 := 0#32
  let v1819 : BitVec 1 := Scalar.cmpi .ne v1818 c0_i32_1144
  let v1823 : BitVec 1 := Scalar.andi v1822 v1819
  let v1824 : BitVec 32 := Scalar.addi v1818 v1817
  let v1825 : BitVec 32 := Scalar.select v1823 v1824 v1818
  let c1_i32_1148 : BitVec 32 := 1#32
  let v1826 : BitVec 32 := Scalar.muli v1825 c1_i32_1148
  let v1827 : BitVec 32 := Scalar.addi c0_i32_1149 v1826
  v1827.toNat
def k0_dev24 (d0 : Dev nD) : Nat :=
  let c0_i32_1163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1154 : BitVec 32 := 5#32
  let v1834 : BitVec 32 := Scalar.addi v2 c5_i32_1154
  let c8_i32_1155 : BitVec 32 := 8#32
  let c0_i32_1156 : BitVec 32 := 0#32
  let v1835 : BitVec 1 := Scalar.cmpi .eq c8_i32_1155 c0_i32_1156
  let c1_i32_1157 : BitVec 32 := 1#32
  let v1836 : BitVec 32 := Scalar.select v1835 c1_i32_1157 c8_i32_1155
  let v1837 : BitVec 32 := Scalar.remsi v1834 v1836
  let c0_i32_1159 : BitVec 32 := 0#32
  let v1839 : BitVec 1 := Scalar.cmpi .slt v1837 c0_i32_1159
  let c0_i32_1160 : BitVec 32 := 0#32
  let v1840 : BitVec 1 := Scalar.cmpi .slt v1836 c0_i32_1160
  let v1841 : BitVec 1 := Scalar.xori v1839 v1840
  let c0_i32_1158 : BitVec 32 := 0#32
  let v1838 : BitVec 1 := Scalar.cmpi .ne v1837 c0_i32_1158
  let v1842 : BitVec 1 := Scalar.andi v1841 v1838
  let v1843 : BitVec 32 := Scalar.addi v1837 v1836
  let v1844 : BitVec 32 := Scalar.select v1842 v1843 v1837
  let c1_i32_1162 : BitVec 32 := 1#32
  let v1845 : BitVec 32 := Scalar.muli v1844 c1_i32_1162
  let v1846 : BitVec 32 := Scalar.addi c0_i32_1163 v1845
  v1846.toNat
def k0_dev25 (d0 : Dev nD) : Nat :=
  let c0_i32_1177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1168 : BitVec 32 := 2#32
  let v1853 : BitVec 32 := Scalar.addi v2 c2_i32_1168
  let c8_i32_1169 : BitVec 32 := 8#32
  let c0_i32_1170 : BitVec 32 := 0#32
  let v1854 : BitVec 1 := Scalar.cmpi .eq c8_i32_1169 c0_i32_1170
  let c1_i32_1171 : BitVec 32 := 1#32
  let v1855 : BitVec 32 := Scalar.select v1854 c1_i32_1171 c8_i32_1169
  let v1856 : BitVec 32 := Scalar.remsi v1853 v1855
  let c0_i32_1173 : BitVec 32 := 0#32
  let v1858 : BitVec 1 := Scalar.cmpi .slt v1856 c0_i32_1173
  let c0_i32_1174 : BitVec 32 := 0#32
  let v1859 : BitVec 1 := Scalar.cmpi .slt v1855 c0_i32_1174
  let v1860 : BitVec 1 := Scalar.xori v1858 v1859
  let c0_i32_1172 : BitVec 32 := 0#32
  let v1857 : BitVec 1 := Scalar.cmpi .ne v1856 c0_i32_1172
  let v1861 : BitVec 1 := Scalar.andi v1860 v1857
  let v1862 : BitVec 32 := Scalar.addi v1856 v1855
  let v1863 : BitVec 32 := Scalar.select v1861 v1862 v1856
  let c1_i32_1176 : BitVec 32 := 1#32
  let v1864 : BitVec 32 := Scalar.muli v1863 c1_i32_1176
  let v1865 : BitVec 32 := Scalar.addi c0_i32_1177 v1864
  v1865.toNat
def k0_dev26 (d0 : Dev nD) : Nat :=
  let c0_i32_1191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1182 : BitVec 32 := 6#32
  let v1872 : BitVec 32 := Scalar.addi v2 c6_i32_1182
  let c8_i32_1183 : BitVec 32 := 8#32
  let c0_i32_1184 : BitVec 32 := 0#32
  let v1873 : BitVec 1 := Scalar.cmpi .eq c8_i32_1183 c0_i32_1184
  let c1_i32_1185 : BitVec 32 := 1#32
  let v1874 : BitVec 32 := Scalar.select v1873 c1_i32_1185 c8_i32_1183
  let v1875 : BitVec 32 := Scalar.remsi v1872 v1874
  let c0_i32_1187 : BitVec 32 := 0#32
  let v1877 : BitVec 1 := Scalar.cmpi .slt v1875 c0_i32_1187
  let c0_i32_1188 : BitVec 32 := 0#32
  let v1878 : BitVec 1 := Scalar.cmpi .slt v1874 c0_i32_1188
  let v1879 : BitVec 1 := Scalar.xori v1877 v1878
  let c0_i32_1186 : BitVec 32 := 0#32
  let v1876 : BitVec 1 := Scalar.cmpi .ne v1875 c0_i32_1186
  let v1880 : BitVec 1 := Scalar.andi v1879 v1876
  let v1881 : BitVec 32 := Scalar.addi v1875 v1874
  let v1882 : BitVec 32 := Scalar.select v1880 v1881 v1875
  let c1_i32_1190 : BitVec 32 := 1#32
  let v1883 : BitVec 32 := Scalar.muli v1882 c1_i32_1190
  let v1884 : BitVec 32 := Scalar.addi c0_i32_1191 v1883
  v1884.toNat
def k0_dev27 (d0 : Dev nD) : Nat :=
  let c0_i32_1205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1196 : BitVec 32 := 1#32
  let v1891 : BitVec 32 := Scalar.addi v2 c1_i32_1196
  let c8_i32_1197 : BitVec 32 := 8#32
  let c0_i32_1198 : BitVec 32 := 0#32
  let v1892 : BitVec 1 := Scalar.cmpi .eq c8_i32_1197 c0_i32_1198
  let c1_i32_1199 : BitVec 32 := 1#32
  let v1893 : BitVec 32 := Scalar.select v1892 c1_i32_1199 c8_i32_1197
  let v1894 : BitVec 32 := Scalar.remsi v1891 v1893
  let c0_i32_1201 : BitVec 32 := 0#32
  let v1896 : BitVec 1 := Scalar.cmpi .slt v1894 c0_i32_1201
  let c0_i32_1202 : BitVec 32 := 0#32
  let v1897 : BitVec 1 := Scalar.cmpi .slt v1893 c0_i32_1202
  let v1898 : BitVec 1 := Scalar.xori v1896 v1897
  let c0_i32_1200 : BitVec 32 := 0#32
  let v1895 : BitVec 1 := Scalar.cmpi .ne v1894 c0_i32_1200
  let v1899 : BitVec 1 := Scalar.andi v1898 v1895
  let v1900 : BitVec 32 := Scalar.addi v1894 v1893
  let v1901 : BitVec 32 := Scalar.select v1899 v1900 v1894
  let c1_i32_1204 : BitVec 32 := 1#32
  let v1902 : BitVec 32 := Scalar.muli v1901 c1_i32_1204
  let v1903 : BitVec 32 := Scalar.addi c0_i32_1205 v1902
  v1903.toNat
def k0_dev28 (d0 : Dev nD) : Nat :=
  let c0_i32_1219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1210 : BitVec 32 := 7#32
  let v1910 : BitVec 32 := Scalar.addi v2 c7_i32_1210
  let c8_i32_1211 : BitVec 32 := 8#32
  let c0_i32_1212 : BitVec 32 := 0#32
  let v1911 : BitVec 1 := Scalar.cmpi .eq c8_i32_1211 c0_i32_1212
  let c1_i32_1213 : BitVec 32 := 1#32
  let v1912 : BitVec 32 := Scalar.select v1911 c1_i32_1213 c8_i32_1211
  let v1913 : BitVec 32 := Scalar.remsi v1910 v1912
  let c0_i32_1215 : BitVec 32 := 0#32
  let v1915 : BitVec 1 := Scalar.cmpi .slt v1913 c0_i32_1215
  let c0_i32_1216 : BitVec 32 := 0#32
  let v1916 : BitVec 1 := Scalar.cmpi .slt v1912 c0_i32_1216
  let v1917 : BitVec 1 := Scalar.xori v1915 v1916
  let c0_i32_1214 : BitVec 32 := 0#32
  let v1914 : BitVec 1 := Scalar.cmpi .ne v1913 c0_i32_1214
  let v1918 : BitVec 1 := Scalar.andi v1917 v1914
  let v1919 : BitVec 32 := Scalar.addi v1913 v1912
  let v1920 : BitVec 32 := Scalar.select v1918 v1919 v1913
  let c1_i32_1218 : BitVec 32 := 1#32
  let v1921 : BitVec 32 := Scalar.muli v1920 c1_i32_1218
  let v1922 : BitVec 32 := Scalar.addi c0_i32_1219 v1921
  v1922.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x256x1024 : Shape := ⟨3, ![1, 256, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S1x256x8192 : Shape := ⟨3, ![1, 256, 8192]⟩
abbrev S1x256x64x128 : Shape := ⟨4, ![1, 256, 64, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x64x256x4096 : Shape := ⟨4, ![1, 64, 256, 4096]⟩
abbrev S1x1x256x4096 : Shape := ⟨4, ![1, 1, 256, 4096]⟩
abbrev S1x64x256 : Shape := ⟨3, ![1, 64, 256]⟩
abbrev S1x64x256x1 : Shape := ⟨4, ![1, 64, 256, 1]⟩
abbrev S1x1x256x1 : Shape := ⟨4, ![1, 1, 256, 1]⟩
abbrev S1x64x128x256 : Shape := ⟨4, ![1, 64, 128, 256]⟩

abbrev nBuf : Space → Nat
  | .hbm => 137
  | .vmem => 0
  | .smem => 0
  | _ => 0

abbrev hbmTy0_0 (i : Nat) : BufTy := match i % 128 with
  | 0 => ⟨S1x256x1024, .f32⟩
  | 1 => ⟨S1024x8192, .f32⟩
  | 2 => ⟨S1x4096x64x128, .f32⟩
  | 3 => ⟨S1x4096x64x128, .f32⟩
  | 4 => ⟨S8192x1024, .f32⟩
  | 5 => ⟨S1x256x8192, .f32⟩
  | 6 => ⟨S1x256x64x128, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S256x4096, .i32⟩
  | 48 => ⟨S256x4096, .i32⟩
  | 49 => ⟨S256x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x4096, .i32⟩
  | 95 => ⟨S256x4096, .i32⟩
  | 96 => ⟨S256x4096, .i1⟩
  | 97 => ⟨S256x4096, .i1⟩
  | 98 => ⟨S1x64x256x4096, .f32⟩
  | 99 => ⟨S_, .f32⟩
  | 100 => ⟨S1x64x256x4096, .f32⟩
  | 101 => ⟨S1x64x256x4096, .f32⟩
  | 102 => ⟨S1x1x256x4096, .i1⟩
  | 103 => ⟨S_, .f32⟩
  | 104 => ⟨S_, .f32⟩
  | 105 => ⟨S1x64x256x4096, .i1⟩
  | 106 => ⟨S1x64x256x4096, .f32⟩
  | 107 => ⟨S1x64x256x4096, .f32⟩
  | 108 => ⟨S_, .f32⟩
  | 109 => ⟨S1x64x256, .f32⟩
  | 110 => ⟨S1x64x256x1, .f32⟩
  | 111 => ⟨S1x64x256x4096, .f32⟩
  | 112 => ⟨S1x64x256x4096, .f32⟩
  | 113 => ⟨S1x64x256x4096, .f32⟩
  | 114 => ⟨S_, .i1⟩
  | 115 => ⟨S256, .i1⟩
  | 116 => ⟨S1x1x256x1, .i1⟩
  | 117 => ⟨S_, .f32⟩
  | 118 => ⟨S1x64x256, .f32⟩
  | 119 => ⟨S1x64x256x1, .f32⟩
  | 120 => ⟨S_, .f32⟩
  | 121 => ⟨S_, .f32⟩
  | 122 => ⟨S1x64x256x1, .i1⟩
  | 123 => ⟨S1x64x256x1, .f32⟩
  | 124 => ⟨S1x64x256x1, .f32⟩
  | 125 => ⟨S1x64x256x4096, .f32⟩
  | 126 => ⟨S1x64x256x4096, .f32⟩
  | 127 => ⟨S1x1x256x1, .i1⟩
  | _ => ⟨S1x256x1024, .f32⟩

abbrev hbmTy0_1 (i : Nat) : BufTy := match i % 128 with
  | 0 => ⟨S_, .f32⟩
  | 1 => ⟨S_, .f32⟩
  | 2 => ⟨S1x64x256x4096, .i1⟩
  | 3 => ⟨S1x64x256x4096, .f32⟩
  | 4 => ⟨S1x64x256x4096, .f32⟩
  | 5 => ⟨S1x64x128x256, .f32⟩
  | 6 => ⟨S1x256x64x128, .f32⟩
  | 7 => ⟨S1x256x8192, .f32⟩
  | 8 => ⟨S1x256x1024, .f32⟩
  | _ => ⟨S1x256x1024, .f32⟩

abbrev hbmTy (i : Nat) : BufTy := match i / 128 with
  | 0 => hbmTy0_0 i
  | 1 => hbmTy0_1 i
  | _ => ⟨S1x256x1024, .f32⟩

abbrev bufTy : (tb : Table) → Fin (tcTables nBuf tb) → BufTy
  | .hbm, ⟨i, _⟩ => hbmTy i
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Prog.lean ====
/- The kernel's body as a structured program: one fragment per step of the algorithm, at a symbolic head, query block
   or peer, and the lists the steps run over. `body_eq` says that the printed body is this program. -/
module

public import proofs.«01_k».proof.Proof.Gen.KernelIdeal.Launch
public import proofs.«01_k».proof.Proof.Gen.KernelIdeal.Skeleton

@[expose] public section

set_option maxRecDepth 65536
set_option synthInstance.maxSize 4096

noncomputable section

namespace Cert.KernelIdeal.Ulysses

open Idealize.ShloMosaic Idealize.SL.Sem Cert.KernelIdeal.Gen

variable {F : FTy → Type} [FloatOps F]

/-- A program of one TensorCore of this kernel. -/
abbrev Code (F : FTy → Type) (α : Type) : Type 1 := Prog (TpuEff nD τ sig (Elt F) Λ₀ .tc) α

/-- Run `f` on the elements of a list, in order. -/
def forL {F : FTy → Type} {α : Type} : List α → (α → Code F PUnit) → Code F PUnit
  | [], _ => pure ⟨⟩
  | a :: l, f => do f a; forL l f

/-! ## Index facts at symbolic heads, blocks and peers -/

theorem headInb : ∀ h : Fin 8, ∀ a, (![h.val, 0, 0] : Fin 3 → Nat) a + S1x4096x128.size a ≤ S8x4096x128.size a := by decide
theorem kvInb : ∀ h : Fin 8, ∀ a, (![0, 0, h.val, 0] : Fin 4 → Nat) a + S1x4096x1x128.size a ≤ S1x4096x8x128.size a := by decide
theorem sem8Inb : ∀ h : Fin 8, ∀ a, (![h.val] : Fin 1 → Nat) a + S1.size a ≤ S8.size a := by decide
theorem sem7Inb : ∀ r : Fin 7, ∀ a, (![r.val] : Fin 1 → Nat) a + S1.size a ≤ S7.size a := by decide
theorem blkInb : ∀ (q : Fin 4) (h : Fin 8), ∀ a, (![64 * q.val, 128 * h.val] : Fin 2 → Nat) a + S64x128.size a ≤ S256x1024.size a := by decide
theorem blkPacked : ∀ (q : Fin 4) (h : Fin 8), (Rect.unit (s := S256x1024) ![64 * q.val, 128 * h.val] S64x128.size (blkInb q h)).PackedRows (EltTy.packing .bf16) := by decide +kernel
theorem colInb : ∀ b : Fin 2, ∀ a, (![0, 512 * b.val] : Fin 2 → Nat) a + S256x512.size a ≤ S256x1024.size a := by decide
theorem rowInb : ∀ b : Fin 2, ∀ a, (![512 * b.val, 0] : Fin 2 → Nat) a + S512x1024.size a ≤ S1024x1024.size a := by decide
theorem qSlices : ∀ q : Fin 4, S16x4x64x128.Slices ![0, q.val, 0, 0] S16x1x64x128 := by decide

/-! ## The buffers -/

abbrev wqB : Memref sig .tc .vmem S1024x1024 .f32 := Memref.whole cc0_scratch0
abbrev woB : Memref sig .tc .vmem S1024x1024 .f32 := Memref.whole cc0_scratch1
abbrev kB : Memref sig .tc .vmem S8x4096x128 .f32 := Memref.whole cc0_scratch2
abbrev vB : Memref sig .tc .vmem S8x4096x128 .f32 := Memref.whole cc0_scratch3
abbrev qB : Memref sig .tc .vmem S256x1024 .bf16 := Memref.whole cc0_scratch4
abbrev cB : Memref sig .tc .vmem S256x1024 .bf16 := Memref.whole cc0_scratch5
/-- The two halves' partial products. -/
abbrev paB : Memref sig .tc .vmem S8x32x1024 .bf16 := Memref.whole cc0_scratch6
abbrev pbB : Memref sig .tc .vmem S8x32x1024 .bf16 := Memref.whole cc0_scratch7
abbrev redB : Memref sig .tc .vmem S32x1024 .f32 := Memref.whole cc0_scratch8
abbrev raB : Memref sig .tc .vmem S8x32x1024 .bf16 := Memref.whole cc0_scratch9
abbrev rbB : Memref sig .tc .vmem S8x32x1024 .bf16 := Memref.whole cc0_scratch10
abbrev gB : Memref sig .tc .vmem S8x32x1024 .bf16 := Memref.whole cc0_scratch11
abbrev wqA : Memref sig .tc .hbm S1024x8192 .f32 := Memref.whole main_arg1
abbrev kA : Memref sig .tc .hbm S1x4096x8x128 .f32 := Memref.whole main_arg2
abbrev vA : Memref sig .tc .hbm S1x4096x8x128 .f32 := Memref.whole main_arg3
abbrev woA : Memref sig .tc .hbm S8192x1024 .f32 := Memref.whole main_arg4

/-- Device `c`'s columns of the query weights, and its rows of the output weights. -/
abbrev wqSrc (c : Dev nD) : Memref sig .tc .hbm S1024x1024 .f32 :=
  wqA.slice (Rect.unit (s := S1024x8192) (k0_off1 c) S1024x1024.size (k0_off1_inb c)) (fun _ => rfl)
abbrev woSrc (c : Dev nD) : Memref sig .tc .hbm S1024x1024 .f32 :=
  woA.slice (Rect.unit (s := S8192x1024) (k0_off2 c) S1024x1024.size (k0_off2_inb c)) (fun _ => rfl)
/-- Head `h` of an array of keys or values, and its place in the staging buffer. -/
abbrev kvSrc (m : Memref sig .tc .hbm S1x4096x8x128 .f32) (h : Fin 8) : Memref sig .tc .hbm S4096x128 .f32 :=
  (m.slice (Rect.unit (s := S1x4096x8x128) ![0, 0, h.val, 0] S1x4096x1x128.size (kvInb h)) (fun _ => rfl)).squeeze S4096x128 squeezes_S1x4096x1x128_S4096x128
abbrev kvDst (m : Memref sig .tc .vmem S8x4096x128 .f32) (h : Fin 8) : Memref sig .tc .vmem S4096x128 .f32 :=
  (m.slice (Rect.unit (s := S8x4096x128) ![h.val, 0, 0] S1x4096x128.size (headInb h)) (fun _ => rfl)).squeeze S4096x128 squeezes_S1x4096x128_S4096x128
/-- A buffer's slot of device `c` itself, and of the peer `r + 1` places after it. -/
abbrev mySlot (m : Memref sig .tc .vmem S8x32x1024 .bf16) (c : Dev nD) : Memref sig .tc .vmem S1x32x1024 .bf16 :=
  m.slice (Rect.unit (s := S8x32x1024) (k0_off4 c) S1x32x1024.size (k0_off4_inb c)) (fun _ => rfl)
abbrev peerSlot (m : Memref sig .tc .vmem S8x32x1024 .bf16) (c : Dev nD) (r : Fin 7) : Memref sig .tc .vmem S1x32x1024 .bf16 :=
  m.slice (Rect.unit (s := S8x32x1024) (k0_off5 c (BitVec.ofNat 32 (1 + r.val))) S1x32x1024.size (k0_off5_inb c r)) (fun _ => rfl)
/-- The same slots as places of a load or a store. -/
abbrev myRect (c : Dev nD) : Rect S8x32x1024 := Rect.unit (s := S8x32x1024) (k0_off6 c) S1x32x1024.size (k0_off6_inb c)
abbrev peerRect (c : Dev nD) (r : Fin 7) : Rect S8x32x1024 := Rect.unit (s := S8x32x1024) (k0_off8 c (BitVec.ofNat 32 (1 + r.val))) S1x32x1024.size (k0_off8_inb c r)

abbrev sem2 (i : Fin 2) : DmaSem sig := ((cc0_scratch12.slice (Rect.unit (s := S2) ![i.val] S1.size (by revert i; decide))).squeeze S_ squeezes_S1_S_).sem
abbrev sem8 (s : DmaSems sig S8) (h : Fin 8) : DmaSem sig := ((s.slice (Rect.unit (s := S8) ![h.val] S1.size (sem8Inb h))).squeeze S_ squeezes_S1_S_).sem
abbrev sem7 (s : DmaSems sig S7) (r : Fin 7) : DmaSem sig := ((s.slice (Rect.unit (s := S7) ![r.val] S1.size (sem7Inb r))).squeeze S_ squeezes_S1_S_).sem
abbrev mySem (s : DmaSems sig S8) (c : Dev nD) : DmaSem sig := ((s.slice (Rect.unit (s := S8) (k0_off3 c) S1.size (k0_off3_inb c))).squeeze S_ squeezes_S1_S_).sem
abbrev peerSem (s : DmaSems sig S8) (c : Dev nD) (r : Fin 7) : DmaSem sig :=
  ((s.slice (Rect.unit (s := S8) (k0_off7 c (BitVec.ofNat 32 (1 + r.val))) S1.size (k0_off7_inb c r))).squeeze S_ squeezes_S1_S_).sem
/-- The barrier semaphore. -/
abbrev barS : Sem sig := (SemArray.scalar (sig.barrier 0 rfl) : Sems sig S_).sem

/-- The device `r + 1` places after `c`, as each signal and each send computes it. -/
def sigDev (c : Dev nD) : Fin 7 → Dev nD
  | 0 => ⟨k0_dev1 c, k0_dev1_lt c⟩ | 1 => ⟨k0_dev2 c, k0_dev2_lt c⟩ | 2 => ⟨k0_dev3 c, k0_dev3_lt c⟩ | 3 => ⟨k0_dev4 c, k0_dev4_lt c⟩
  | 4 => ⟨k0_dev5 c, k0_dev5_lt c⟩ | 5 => ⟨k0_dev6 c, k0_dev6_lt c⟩ | 6 => ⟨k0_dev7 c, k0_dev7_lt c⟩
def devA (c : Dev nD) : Fin 7 → Dev nD
  | 3 => ⟨k0_dev8 c, k0_dev8_lt c⟩ | 2 => ⟨k0_dev9 c, k0_dev9_lt c⟩ | 4 => ⟨k0_dev10 c, k0_dev10_lt c⟩ | 1 => ⟨k0_dev11 c, k0_dev11_lt c⟩
  | 5 => ⟨k0_dev12 c, k0_dev12_lt c⟩ | 0 => ⟨k0_dev13 c, k0_dev13_lt c⟩ | 6 => ⟨k0_dev14 c, k0_dev14_lt c⟩
def devB (c : Dev nD) : Fin 7 → Dev nD
  | 3 => ⟨k0_dev15 c, k0_dev15_lt c⟩ | 2 => ⟨k0_dev16 c, k0_dev16_lt c⟩ | 4 => ⟨k0_dev17 c, k0_dev17_lt c⟩ | 1 => ⟨k0_dev18 c, k0_dev18_lt c⟩
  | 5 => ⟨k0_dev19 c, k0_dev19_lt c⟩ | 0 => ⟨k0_dev20 c, k0_dev20_lt c⟩ | 6 => ⟨k0_dev21 c, k0_dev21_lt c⟩
def devG (c : Dev nD) : Fin 7 → Dev nD
  | 3 => ⟨k0_dev22 c, k0_dev22_lt c⟩ | 2 => ⟨k0_dev23 c, k0_dev23_lt c⟩ | 4 => ⟨k0_dev24 c, k0_dev24_lt c⟩ | 1 => ⟨k0_dev25 c, k0_dev25_lt c⟩
  | 5 => ⟨k0_dev26 c, k0_dev26_lt c⟩ | 0 => ⟨k0_dev27 c, k0_dev27_lt c⟩ | 6 => ⟨k0_dev28 c, k0_dev28_lt c⟩

/-- The peers in order, and in the order of the sends. -/
abbrev peers : List (Fin 7) := [0, 1, 2, 3, 4, 5, 6]
abbrev sendOrder : List (Fin 7) := [3, 2, 4, 1, 5, 0, 6]

/-! ## Values -/

/-- The keys or values query block `q` reads: key blocks congruent to `q` modulo 4, of one head. -/
def selKV (q : Fin 4) (k : Vec F S1x4096x128 .f32) : FVec F S1024x128 .bf16 :=
  truncf .bf16 (shapeCast S1024x128 (shapeCast S16x64x128 (extractStridedSlice S16x1x64x128 ![0, q.val, 0, 0]
    (k0_pay2 k) (qSlices q)) shapeCasts_S16x1x64x128_S16x64x128) shapeCasts_S16x64x128_S1024x128) bitsLt_bf16_f32

/-- The exponentials of one block of queries' scores. -/
def expScores (q : Fin 4) (k : Vec F S1x4096x128 .f32) (x : Vec F S64x128 .bf16) : FVec F S64x1024 .f32 :=
  exp (matmul dot_S64x128_S128x1024_S64x1024_1_0_0_1_n_n none x
    (transpose S128x1024 [1, 0] (selKV q k) transposes_S1024x128_p1_0_S128x1024) (constant S64x1024 .f32 0x00000000#32))

/-- One block of queries attending to one head: the weighted values times the reciprocal of the weights' sum. -/
def attVal (q : Fin 4) (k v : Vec F S1x4096x128 .f32) (x : Vec F S64x128 .bf16) : FVec F S64x128 .bf16 :=
  shapeCast S64x128 (truncf .bf16 (mulf
    (matmul dot_S64x1024_S1024x128_S64x128_1_0_0_1_n_n none (truncf .bf16 (expScores q k x) bitsLt_bf16_f32) (selKV q v) (constant S64x128 .f32 0x00000000#32))
    (broadcastTo S64x128 (divf (broadcast S64x1 (Scalar.ofBits .f32 0x3F800000#32))
      (shapeCast S64x1 (multiReduction .add [1] S64 (expScores q k x) 0x00000000#32 reduces_S64x1024_S64 (.inl rfl) rfl) shapeCasts_S64_S64x1)) broadcasts_S64x1_S64x128))
    bitsLt_bf16_f32) shapeCasts_S64x128_S64x128

/-! ## The fragments -/

/-- Start the copies of the weights' blocks. -/
def loadW (c : Dev nD) : Code F PUnit := do
  Prog.lift (.enqueueDma (wqSrc c) (.here wqB) (.dma (sem2 0)) (View.wordExact_bits rfl) (Memref.isWhole_whole cc0_scratch0).wordExact ⟨Or.inl rfl, trivial⟩)
  Prog.lift (.enqueueDma (woSrc c) (.here woB) (.dma (sem2 1)) (View.wordExact_bits rfl) (Memref.isWhole_whole cc0_scratch1).wordExact ⟨Or.inl rfl, trivial⟩)

/-- Start the copies of head `h`'s keys and values. -/
def loadKV (h : Fin 8) : Code F PUnit := do
  Prog.lift (.enqueueDma (kvSrc kA h) (.here (kvDst kB h)) (.dma (sem8 cc0_scratch13 h)) ((View.wordExact_bits rfl).reshape _ _) ((View.wordExact_bits rfl).reshape _ _) ⟨Or.inl rfl, trivial⟩)
  Prog.lift (.enqueueDma (kvSrc vA h) (.here (kvDst vB h)) (.dma (sem8 cc0_scratch14 h)) ((View.wordExact_bits rfl).reshape _ _) ((View.wordExact_bits rfl).reshape _ _) ⟨Or.inl rfl, trivial⟩)

/-- Tell the peer that this device has entered the kernel. -/
def sig1 (c : Dev nD) (r : Fin 7) : Code F PUnit := semSignalWord (sigDev c r) barS 1#32

/-- Wait for the query weights and compute the scaled queries. -/
def queries (c : Dev nD) (x : Memref sig .tc .vmem S1x256x1024 .f32) : Code F PUnit := do
  Prog.lift (.waitDma2 (sem2 0) (wqSrc c) wqB (View.wordExact_bits rfl) (Memref.isWhole_whole cc0_scratch0).wordExact)
  let xv : Vec F S1x256x1024 .f32 ← Prog.lift (.load x (Rect.unit (s := S1x256x1024) ![0, 0, 0] S1x256x1024.size inb_S1x256x1024_S1x256x1024_0_0_0).toLoadRect (View.loadsAt_vmem h_S1x256x1024))
  let wv : Vec F S1024x1024 .f32 ← Prog.lift (.load wqB (Rect.unit (s := S1024x1024) ![0, 0] S1024x1024.size inb_S1024x1024_S1024x1024_0_0).toLoadRect (View.loadsAt_vmem h_S1024x1024))
  let _ : Vec F S256x1024 .bf16 ← Prog.lift (.load qB (Rect.unit (s := S256x1024) ![0, 0] S256x1024.size inb_S256x1024_S256x1024_0_0).toLoadRect (View.loadsAt_vmem h_S256x1024))
  Prog.lift (.store qB (Rect.unit (s := S256x1024) ![0, 0] S256x1024.size inb_S256x1024_S256x1024_0_0) (k0_pay1 xv wv) Finset.univ (View.stores_vmem h_S256x1024 ((Memref.isWhole_whole cc0_scratch4).storeExact_slice rfl _ packedbf16_S256x1024_S256x1024_0_0) (fun _ => rfl)) (.inl rfl))

/-- Query block `q` attends to head `h`. -/
def attBlk (h : Fin 8) (k v : Vec F S1x4096x128 .f32) (q : Fin 4) : Code F PUnit := do
  let x : Vec F S64x128 .bf16 ← Prog.lift (.load qB (Rect.unit (s := S256x1024) ![64 * q.val, 128 * h.val] S64x128.size (blkInb q h)).toLoadRect (View.loadsAt_vmem h_S64x128))
  let _ : Vec F S64x128 .bf16 ← Prog.lift (.load cB (Rect.unit (s := S256x1024) ![64 * q.val, 128 * h.val] S64x128.size (blkInb q h)).toLoadRect (View.loadsAt_vmem h_S64x128))
  Prog.lift (.store cB (Rect.unit (s := S256x1024) ![64 * q.val, 128 * h.val] S64x128.size (blkInb q h)) (attVal q k v x) Finset.univ (View.stores_vmem h_S64x128 ((Memref.isWhole_whole cc0_scratch5).storeExact_slice rfl _ (blkPacked q h)) (fun _ => rfl)) (.inl rfl))

/-- Wait for head `h` and attend to it. -/
def attend (h : Fin 8) : Code F PUnit := do
  Prog.lift (.waitDma2 (sem8 cc0_scratch13 h) (kvSrc kA h) (kvDst kB h) ((View.wordExact_bits rfl).reshape _ _) ((View.wordExact_bits rfl).reshape _ _))
  Prog.lift (.waitDma2 (sem8 cc0_scratch14 h) (kvSrc vA h) (kvDst vB h) ((View.wordExact_bits rfl).reshape _ _) ((View.wordExact_bits rfl).reshape _ _))
  let k : Vec F S1x4096x128 .f32 ← Prog.lift (.load kB (Rect.unit (s := S8x4096x128) ![h.val, 0, 0] S1x4096x128.size (headInb h)).toLoadRect (View.loadsAt_vmem h_S1x4096x128))
  let v : Vec F S1x4096x128 .f32 ← Prog.lift (.load vB (Rect.unit (s := S8x4096x128) ![h.val, 0, 0] S1x4096x128.size (headInb h)).toLoadRect (View.loadsAt_vmem h_S1x4096x128))
  forL [0, 1, 2, 3] (attBlk h k v)

/-- Half `b` of the output product, cut into the devices' row blocks. -/
def product (b : Fin 2) (p : Memref sig .tc .vmem S8x32x1024 .bf16) (hp : p.IsWhole) : Code F PUnit := do
  let x : Vec F S256x512 .bf16 ← Prog.lift (.load cB (Rect.unit (s := S256x1024) ![0, 512 * b.val] S256x512.size (colInb b)).toLoadRect (View.loadsAt_vmem h_S256x512))
  let w : Vec F S512x1024 .f32 ← Prog.lift (.load woB (Rect.unit (s := S1024x1024) ![512 * b.val, 0] S512x1024.size (rowInb b)).toLoadRect (View.loadsAt_vmem h_S512x1024))
  let _ : Vec F S8x32x1024 .bf16 ← Prog.lift (.load p (Rect.unit (s := S8x32x1024) ![0, 0, 0] S8x32x1024.size inb_S8x32x1024_S8x32x1024_0_0_0).toLoadRect (View.loadsAt_vmem h_S8x32x1024))
  Prog.lift (.store p (Rect.unit (s := S8x32x1024) ![0, 0, 0] S8x32x1024.size inb_S8x32x1024_S8x32x1024_0_0_0) (k0_pay40 x w) Finset.univ (View.stores_vmem h_S8x32x1024 (hp.storeExact_slice rfl _ packedbf16_S8x32x1024_S8x32x1024_0_0_0) (fun _ => rfl)) (.inl rfl))

/-- Send the peer its row block. -/
def sendP (c : Dev nD) (p : Memref sig .tc .vmem S8x32x1024 .bf16) (hp : p.IsWhole) (d : Memref sig .tc .vmem S8x32x1024 .bf16) (hd : d.IsWhole)
    (ss : DmaSems sig S7) (rs : DmaSems sig S8) (dev : Fin 7 → Dev nD) (r : Fin 7) : Code F PUnit :=
  Prog.lift (.enqueueDma (peerSlot p c r) (.remote (Dev.tc (dev r)) (mySlot d c) (.dma (sem7 ss r))) (.dma (mySem rs c)) (hp.wordExact_slice rfl _ (k0_off5_wordsbf16 c r)) (hd.wordExact_slice rfl _ (k0_off4_wordsbf16 c)) ⟨⟨rfl, Or.inl rfl⟩, trivial⟩)

/-- Start the sum with this device's own two products. -/
def ownSum (c : Dev nD) : Code F PUnit := do
  let a : Vec F S1x32x1024 .bf16 ← Prog.lift (.load paB (myRect c).toLoadRect (View.loadsAt_vmem h_S1x32x1024))
  let b : Vec F S1x32x1024 .bf16 ← Prog.lift (.load pbB (myRect c).toLoadRect (View.loadsAt_vmem h_S1x32x1024))
  let _ : Vec F S32x1024 .f32 ← Prog.lift (.load redB (Rect.unit (s := S32x1024) ![0, 0] S32x1024.size inb_S32x1024_S32x1024_0_0).toLoadRect (View.loadsAt_vmem h_S32x1024))
  Prog.lift (.store redB (Rect.unit (s := S32x1024) ![0, 0] S32x1024.size inb_S32x1024_S32x1024_0_0) (k0_pay84 a b) Finset.univ (View.stores_vmem_bits_univ h_S32x1024 rfl) (.inl rfl))

/-- Wait for the peer's row block and add it. -/
def collect (c : Dev nD) (d : Memref sig .tc .vmem S8x32x1024 .bf16) (hd : d.IsWhole) (rs : DmaSems sig S8) (r : Fin 7) : Code F PUnit := do
  Prog.lift (.waitDma2 (peerSem rs c r) (peerSlot d c r) (peerSlot d c r) (hd.wordExact_slice rfl _ (k0_off5_wordsbf16 c r)) (hd.wordExact_slice rfl _ (k0_off5_wordsbf16 c r)))
  let a : Vec F S32x1024 .f32 ← Prog.lift (.load redB (Rect.unit (s := S32x1024) ![0, 0] S32x1024.size inb_S32x1024_S32x1024_0_0).toLoadRect (View.loadsAt_vmem h_S32x1024))
  let b : Vec F S1x32x1024 .bf16 ← Prog.lift (.load d (peerRect c r).toLoadRect (View.loadsAt_vmem h_S1x32x1024))
  let _ : Vec F S32x1024 .f32 ← Prog.lift (.load redB (Rect.unit (s := S32x1024) ![0, 0] S32x1024.size inb_S32x1024_S32x1024_0_0).toLoadRect (View.loadsAt_vmem h_S32x1024))
  Prog.lift (.store redB (Rect.unit (s := S32x1024) ![0, 0] S32x1024.size inb_S32x1024_S32x1024_0_0) (k0_pay85 a b) Finset.univ (View.stores_vmem_bits_univ h_S32x1024 rfl) (.inl rfl))

/-- Put the summed rows into this device's slot of the gathering buffer. -/
def putSum (c : Dev nD) : Code F PUnit := do
  let a : Vec F S32x1024 .f32 ← Prog.lift (.load redB (Rect.unit (s := S32x1024) ![0, 0] S32x1024.size inb_S32x1024_S32x1024_0_0).toLoadRect (View.loadsAt_vmem h_S32x1024))
  let _ : Vec F S1x32x1024 .bf16 ← Prog.lift (.load gB (myRect c).toLoadRect (View.loadsAt_vmem h_S1x32x1024))
  Prog.lift (.store gB (myRect c) (k0_pay102 a) Finset.univ (View.stores_vmem h_S1x32x1024 ((Memref.isWhole_whole cc0_scratch11).storeExact_slice rfl _ (k0_off6_packedbf16 c)) (fun _ => rfl)) (.inl rfl))

/-- Send the summed rows to the peer. -/
def sendG (c : Dev nD) (r : Fin 7) : Code F PUnit :=
  Prog.lift (.enqueueDma (mySlot gB c) (.remote (Dev.tc (devG c r)) (mySlot gB c) (.dma (sem7 cc0_scratch19 r))) (.dma (mySem cc0_scratch20 c)) ((Memref.isWhole_whole cc0_scratch11).wordExact_slice rfl _ (k0_off4_wordsbf16 c)) ((Memref.isWhole_whole cc0_scratch11).wordExact_slice rfl _ (k0_off4_wordsbf16 c)) ⟨⟨rfl, Or.inl rfl⟩, trivial⟩)

/-- Wait for the peer's summed rows. -/
def recvG (c : Dev nD) (r : Fin 7) : Code F PUnit :=
  Prog.lift (.waitDma2 (peerSem cc0_scratch20 c r) (peerSlot gB c r) (peerSlot gB c r) ((Memref.isWhole_whole cc0_scratch11).wordExact_slice rfl _ (k0_off5_wordsbf16 c r)) ((Memref.isWhole_whole cc0_scratch11).wordExact_slice rfl _ (k0_off5_wordsbf16 c r)))

/-- Write the result. -/
def output (o : Memref sig .tc .vmem S1x256x1024 .f32) : Code F PUnit := do
  let g : Vec F S8x32x1024 .bf16 ← Prog.lift (.load gB (Rect.unit (s := S8x32x1024) ![0, 0, 0] S8x32x1024.size inb_S8x32x1024_S8x32x1024_0_0_0).toLoadRect (View.loadsAt_vmem h_S8x32x1024))
  let _ : Vec F S1x256x1024 .f32 ← Prog.lift (.load o (Rect.unit (s := S1x256x1024) ![0, 0, 0] S1x256x1024.size inb_S1x256x1024_S1x256x1024_0_0_0).toLoadRect (View.loadsAt_vmem h_S1x256x1024))
  Prog.lift (.store o (Rect.unit (s := S1x256x1024) ![0, 0, 0] S1x256x1024.size inb_S1x256x1024_S1x256x1024_0_0_0) (k0_pay103 g) Finset.univ (View.stores_vmem_bits_univ h_S1x256x1024 rfl) (.inl rfl))

/-- Wait until the send to the peer has left. -/
def drainP (c : Dev nD) (p : Memref sig .tc .vmem S8x32x1024 .bf16) (hp : p.IsWhole) (d : Memref sig .tc .vmem S8x32x1024 .bf16) (hd : d.IsWhole)
    (ss : DmaSems sig S7) (r : Fin 7) : Code F PUnit :=
  Prog.lift (.waitDma2 (sem7 ss r) (mySlot d c) (peerSlot p c r) (hd.wordExact_slice rfl _ (k0_off4_wordsbf16 c)) (hp.wordExact_slice rfl _ (k0_off5_wordsbf16 c r)))
def drainG (c : Dev nD) (r : Fin 7) : Code F PUnit :=
  Prog.lift (.waitDma2 (sem7 cc0_scratch19 r) (mySlot gB c) (mySlot gB c) ((Memref.isWhole_whole cc0_scratch11).wordExact_slice rfl _ (k0_off4_wordsbf16 c)) ((Memref.isWhole_whole cc0_scratch11).wordExact_slice rfl _ (k0_off4_wordsbf16 c)))

/-- The body of the kernel. -/
def prog (x o : Memref sig .tc .vmem S1x256x1024 .f32) : Code F PUnit := do
  let c : Dev nD ← Prog.lift .deviceId
  loadW c
  forL [0, 1, 2, 3, 4, 5, 6, 7] loadKV
  forL peers (sig1 c)
  semWaitWord barS 7#32
  queries c x
  forL [0, 1, 2, 3] attend
  Prog.lift (.waitDma2 (sem2 1) (woSrc c) woB (View.wordExact_bits rfl) (Memref.isWhole_whole cc0_scratch1).wordExact)
  product 0 paB (Memref.isWhole_whole cc0_scratch6)
  forL sendOrder (sendP c paB (Memref.isWhole_whole cc0_scratch6) raB (Memref.isWhole_whole cc0_scratch9) cc0_scratch15 cc0_scratch16 (devA c))
  forL [4, 5, 6, 7] attend
  product 1 pbB (Memref.isWhole_whole cc0_scratch7)
  forL sendOrder (sendP c pbB (Memref.isWhole_whole cc0_scratch7) rbB (Memref.isWhole_whole cc0_scratch10) cc0_scratch17 cc0_scratch18 (devB c))
  ownSum c
  forL peers (collect c raB (Memref.isWhole_whole cc0_scratch9) cc0_scratch16)
  forL peers (collect c rbB (Memref.isWhole_whole cc0_scratch10) cc0_scratch18)
  putSum c
  forL sendOrder (sendG c)
  forL peers (recvG c)
  output o
  forL sendOrder (drainP c paB (Memref.isWhole_whole cc0_scratch6) raB (Memref.isWhole_whole cc0_scratch9) cc0_scratch15)
  forL sendOrder (drainP c pbB (Memref.isWhole_whole cc0_scratch7) rbB (Memref.isWhole_whole cc0_scratch10) cc0_scratch17)
  forL sendOrder (drainG c)

set_option maxHeartbeats 8000000 in
theorem body_eq (x : Memref sig .tc .vmem S1x256x1024 .f32) (hx : x.IsWhole) (o : Memref sig .tc .vmem S1x256x1024 .f32) (ho : o.IsWhole) :
    cc0_body (F := F) x hx wqA (Memref.isWhole_whole _) kA (Memref.isWhole_whole _) vA (Memref.isWhole_whole _) woA (Memref.isWhole_whole _) o ho
      wqB (Memref.isWhole_whole _) woB (Memref.isWhole_whole _) kB (Memref.isWhole_whole _) vB (Memref.isWhole_whole _) qB (Memref.isWhole_whole _)
      cB (Memref.isWhole_whole _) paB (Memref.isWhole_whole _) pbB (Memref.isWhole_whole _) redB (Memref.isWhole_whole _) raB (Memref.isWhole_whole _)
      rbB (Memref.isWhole_whole _) gB (Memref.isWhole_whole _) cc0_scratch12 cc0_scratch13 cc0_scratch14 cc0_scratch15 cc0_scratch16 cc0_scratch17
      cc0_scratch18 cc0_scratch19 cc0_scratch20 = prog x o := rfl

end Cert.KernelIdeal.Ulysses
-- ==== Proof.Own.lean ====
/- Steps of a program on memrefs owned at known values: loads, stores, copies. And the loop over a list. -/
module

public import proofs.«01_k».proof.Proof.Prog
public import Idealize.ShloMosaic.Lib.Pipeline.Launch
public import Idealize.ShloMosaic.Lib.Pipeline.Kit
public import Idealize.ShloMosaic.Lib.Pipeline.BigSepL
public import Idealize.ShloMosaic.Lib.Memref
public import Idealize.ShloMosaic.Lib.Tactic

@[expose] public section

set_option maxRecDepth 65536

noncomputable section

namespace Cert.KernelIdeal.Ulysses

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

/-! ## The resources: the pipeline's, the protocol's (a duty is named by the device that pays it), the local copies' -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR

instance ER_landsIn : (ER : Emb UB 𝕄).LandsIn (upEmb : UEmb _ 𝕄) := by unfold ER; infer_instance

abbrev 𝒱₀ : Variants := Variants.none

/-- The weakest precondition of code on device `c`. -/
abbrev wpc (c : Dev nD) {α : Type} (p : Code F α) (Q : α → sProp 𝕄) : sProp 𝕄 :=
  wp frame (wpE (defs₀ (F := F)) 𝒱₀ (c : Thread nD τ) none) Set.univ p Q

/-- A memref of device `c`, owned at the values `X`. -/
abbrev own (c : Dev nD) {sp : Space} {sh : Shape} {e : EltTy} (m : Memref sig .tc sp sh e) (q : PosShare TreeShare) (X : sh.Idx → Elt F e) : sProp 𝕄 :=
  owns (c : Thread nD τ) m q X

section Steps

variable (c : Dev nD) {α : Type} {Q : α → sProp (MT nD τ sig Unit (Elt F) ℕ UU ℕ)}

theorem own_open {sp : Space} {sh : Shape} {e : EltTy} (m : Memref sig .tc sp sh e) (q : PosShare TreeShare) (X : sh.Idx → Elt F e) :
    own c m q X ⊢ (iprop(∃ f, ⌜m.view.read (Elt F) f = X⌝ ∗ (m.view.loc (c : Thread nD τ) ↦[m.view.set]{q} f)) : sProp 𝕄) := by
  unfold own owns; exact .rfl

theorem own_close {sp : Space} {sh : Shape} {e : EltTy} (m : Memref sig .tc sp sh e) (q : PosShare TreeShare) {X : sh.Idx → Elt F e}
    (f : Buf (Elt F) (m.view.loc (c : Thread nD τ))) (h : m.view.read (Elt F) f = X) :
    (m.view.loc (c : Thread nD τ) ↦[m.view.set]{q} f : sProp 𝕄) ⊢ own c m q X := by
  unfold own owns; iintro H; iexists f; isplitr; · ipureintro; exact h
  iexact H

/-- A load from an owned memref gives its values on the rectangle. -/
theorem own_load {cs : CoreSpace} {sh : Shape} {e : EltTy} (m : Memref sig .tc cs sh e) (r : Rect sh) {hl : m.view.LoadsAt r.toLoadRect}
    {k : (r.shape.Idx → Elt F e) → Code F α} (q : PosShare TreeShare) (X : sh.Idx → Elt F e) :
    own c m q X ⊢ (iprop((own c m q X -∗ wpc c (k fun j => X (r.emb j)) Q) -∗ wpc c (.op (.load m r.toLoadRect hl) k) Q) : sProp 𝕄) := by
  iintro H Hk
  ihave H := (own_open c m q X) $$ H
  icases H with ⟨%f, %hf, H⟩
  iapply (wp_load_rect 𝒱₀ (c : Thread nD τ) none Set.univ (m := m) (r := r) (View.set_slice_subset m.view r)) $$ H
  iintro H
  have e1 : (m.access r).read (Elt F) f = fun j => X (r.emb j) := by rw [← hf]; rfl
  rw [e1]
  iapply Hk; iapply (own_close c m q f hf); iexact H

/-- A load of just the rectangle owned. -/
theorem own_load_slice {cs : CoreSpace} {sh : Shape} {e : EltTy} (m : Memref sig .tc cs sh e) (r : Rect sh) (hr : ∀ a, r.stride a = 1) {hl : m.view.LoadsAt r.toLoadRect}
    {k : (r.shape.Idx → Elt F e) → Code F α} (q : PosShare TreeShare) (X : r.shape.Idx → Elt F e) :
    own c (m.slice r hr) q X ⊢ (iprop((own c (m.slice r hr) q X -∗ wpc c (k X) Q) -∗ wpc c (.op (.load m r.toLoadRect hl) k) Q) : sProp 𝕄) := by
  iintro H Hk
  ihave H := (own_open c (m.slice r hr) q X) $$ H
  icases H with ⟨%f, %hf, H⟩
  iapply (wp_load_rect 𝒱₀ (c : Thread nD τ) none Set.univ (m := m) (r := r) (subset_refl _)) $$ H
  iintro H
  have e1 : (m.access r).read (Elt F) f = X := hf
  rw [e1]
  iapply Hk; iapply (own_close c (m.slice r hr) q f hf); iexact H

theorem read_overlay {cs : CoreSpace} {sh : Shape} {e : EltTy} (m : Memref sig .tc cs sh e) (r : Rect sh) (f : m.view.ty.Contents (Elt F)) (w : r.shape.Idx → Elt F e) :
    m.view.read (Elt F) ((m.access r).write (Elt F) f w Finset.univ) = r.overlay (m.view.read (Elt F) f) w := by
  funext j
  by_cases hj : j ∈ r.set
  · obtain ⟨i, rfl⟩ := r.exists_idx_of_mem hj
    change m.view.read (Elt F) _ (r.emb i) = r.overlay _ w (r.emb i)
    rw [Rect.overlay_emb]
    exact View.read_write_of_mem (v := m.access r) f w (Finset.mem_univ i)
  · rw [Rect.overlay_of_not_mem _ _ _ hj, View.read_apply, View.read_apply, View.write_of_not_mem]
    intro hmem
    have h2 : m.view.emb j ∈ (m.view.slice r).set := by rw [View.setOn_univ] at hmem; exact hmem
    rw [View.set_slice] at h2
    exact hj ((Finset.mem_map' _).mp h2)

/-- A store changes the values on the rectangle. -/
theorem own_store {cs : CoreSpace} {sh : Shape} {e : EltTy} (m : Memref sig .tc cs sh e) (r : Rect sh) {w : r.shape.Idx → Elt F e}
    {hx : (m.access r).Stores Finset.univ} {hm : Finset.univ = (Finset.univ : Finset r.shape.Idx) ∨ ∀ a, r.stride a = 1}
    {k : PUnit → Code F α} (X : sh.Idx → Elt F e) :
    own c m fullShare X ⊢ (iprop((own c m fullShare (r.overlay X w) -∗ wpc c (k ⟨⟩) Q) -∗ wpc c (.op (.store m r w Finset.univ hx hm) k) Q) : sProp 𝕄) := by
  iintro H Hk
  ihave H := (own_open c m fullShare X) $$ H
  icases H with ⟨%f, %hf, H⟩
  iapply (wp_store 𝒱₀ (c : Thread nD τ) none Set.univ (m := m) (r := r) (by rw [View.setOn_univ]; exact View.set_slice_subset m.view r)) $$ H
  iintro H
  iapply Hk; iapply (own_close c m fullShare _ ((read_overlay m r f w).trans (by rw [hf]))); iexact H

/-- A store into just the rectangle owned. -/
theorem own_store_slice {cs : CoreSpace} {sh : Shape} {e : EltTy} (m : Memref sig .tc cs sh e) (r : Rect sh) (hr : ∀ a, r.stride a = 1) {w : r.shape.Idx → Elt F e}
    {hx : (m.access r).Stores Finset.univ} {hm : Finset.univ = (Finset.univ : Finset r.shape.Idx) ∨ ∀ a, r.stride a = 1}
    {k : PUnit → Code F α} (X : r.shape.Idx → Elt F e) :
    own c (m.slice r hr) fullShare X ⊢ (iprop((own c (m.slice r hr) fullShare w -∗ wpc c (k ⟨⟩) Q) -∗ wpc c (.op (.store m r w Finset.univ hx hm) k) Q) : sProp 𝕄) := by
  iintro H Hk
  ihave H := (own_open c (m.slice r hr) fullShare X) $$ H
  icases H with ⟨%f, %hf, H⟩
  iapply (wp_store 𝒱₀ (c : Thread nD τ) none Set.univ (m := m) (r := r) (by rw [View.setOn_univ])) $$ H
  iintro H
  iapply Hk; iapply (own_close c (m.slice r hr) fullShare _ (View.read_write_univ (v := m.access r) f w)) $$ H

/-- A copy within the device, in flight: it lands the source's values and gives the source back. -/
theorem own_copy {sp sp' : Space} {sh : Shape} {e : EltTy} (src : Memref sig .tc sp sh e) (dst : Memref sig .tc sp' sh e) {sm : SemLoc sig}
    {hsrc : src.view.WordExact} {hdst : dst.view.WordExact} {hsem : DmaTarget.Typed (nD := nD) (τ := τ) sp sm (DmaTarget.here (p := (Proc.tc : Proc τ)) dst)}
    {k : PUnit → Code F α} (q : PosShare TreeShare) (X Y : sh.Idx → Elt F e) (N : ℕ) (hN : dst.view.amount sm = N) (hN0 : 0 < N) :
    iprop(own c src q X ∗ own c dst fullShare Y ∗ semVal ((c : Thread nD τ), sm) 0)
      ⊢ (iprop((Flight countersEmb (c : Thread nD τ) sm () N iprop(own c dst fullShare X ∗ own c src q X) -∗ wpc c (k ⟨⟩) Q)
          -∗ wpc c (.op (.enqueueDma src (.here dst) sm hsrc hdst hsem) k) Q) : sProp 𝕄) := by
  iintro ⟨Hs, Hd, Hv⟩ Hk
  ihave Hs := (own_open c src q X) $$ Hs
  ihave Hd := (own_open c dst fullShare Y) $$ Hd
  icases Hs with ⟨%f, %hf, Hs⟩
  icases Hd with ⟨%g, %hg, Hd⟩
  iapply (wp_dmaLocal countersEmb 𝒱₀ (c : Thread nD τ) none () N hN hN0 (subset_refl dst.view.set)) $$ [Hs Hd Hv]
  · isplitl [Hs]; · iexact Hs
    isplitl [Hd]; · iexact Hd
    iexact Hv
  iintro HF
  iapply Hk
  iapply (Flight_mono countersEmb ?_) $$ HF
  iintro ⟨Hd, Hs⟩
  isplitl [Hd]
  · iapply (own_close c dst fullShare _ ?_) $$ Hd
    rw [View.read_write_univ]; exact hf
  · iapply (own_close c src q f hf) $$ Hs

/-- The wait for a copy within the device. -/
theorem own_copy_wait {sp sp' : Space} {sh sh' : Shape} {e e' : EltTy} (src : Memref sig .tc sp' sh' e') (dst : Memref sig .tc sp sh e) {sm : DmaSem sig}
    {hsrc : src.view.WordExact} {hdst : dst.view.WordExact} {k : PUnit → Code F α} {N : ℕ} (hN : dst.view.dmaCredit = N) (D : sProp 𝕄)
    (O : CellTallies nD τ sig Unit) (W : Waits sig Unit) :
    iprop(Flight countersEmb (c : Thread nD τ) (.dma sm) () N D ∗ owes (c : Thread nD τ) O W ∗ MayWait (c : Thread nD τ) (.dma sm) () O)
      ⊢ (iprop((iprop(D ∗ semVal ((c : Thread nD τ), .dma sm) 0 ∗ owes (c : Thread nD τ) O (insert (SemLoc.dma sm, ()) W)) -∗ wpc c (k ⟨⟩) Q)
          -∗ wpc c (.op (.waitDma2 sm src dst hsrc hdst) k) Q) : sProp 𝕄) :=
  wp_waitLocalO countersEmb 𝒱₀ (c : Thread nD τ) none () hN

end Steps

/-! ## The loop -/

theorem wp_forL (c : Dev nD) {α : Type} (f : α → Code F PUnit) (Φ Ψ : α → sProp 𝕄) (I : List α → sProp 𝕄) : ∀ (l : List α)
    (_ : ∀ a l', a :: l' <:+ l → ∀ Q : PUnit → sProp 𝕄, iprop(Φ a ∗ I (a :: l') ∗ (iprop(Ψ a ∗ I l') -∗ Q ⟨⟩)) ⊢ wpc c (f a) Q) (Q : PUnit → sProp 𝕄),
    iprop(bigSepL l Φ ∗ I l ∗ (iprop(bigSepL l Ψ ∗ I []) -∗ Q ⟨⟩)) ⊢ wpc c (forL l f) Q
  | [], _, Q => by
    show _ ⊢ wp _ _ _ (Prog.ret ⟨⟩) Q
    rw [wp_ret]
    refine BIBase.Entails.trans ?_ fupd_intro
    iintro ⟨-, HI, Hk⟩
    iapply Hk
    isplitr; · rw [bigSepL_nil]; iempintro
    iexact HI
  | a :: l, h, Q => by
    show _ ⊢ wp _ _ _ (f a >>= fun _ => forL l f) Q
    rw [wp_bind]
    simp only [bigSepL_cons']
    iintro ⟨⟨Ha, Hl⟩, HI, Hk⟩
    iapply (h a l (List.suffix_refl _) _)
    isplitl [Ha]; · iexact Ha
    isplitl [HI]; · iexact HI
    iintro ⟨Hp, HI⟩
    iapply (wp_forL c f Φ Ψ I l (fun b l' hs Q => h b l' (hs.trans (List.suffix_cons a l)) Q) Q)
    isplitl [Hl]; · iexact Hl
    isplitl [HI]; · iexact HI
    iintro ⟨Hps, HI⟩
    iapply Hk
    isplitl [Hp Hps]
    · isplitl [Hp]; · iexact Hp
      iexact Hps
    iexact HI

end Cert.KernelIdeal.Ulysses
-- ==== Proof.Protocol.lean ====
/- The values each device computes, and the protocol between the devices.

   Semaphores of device `c`. The barrier: every other device signals it once, and with the signal hands over its three
   landing slots of `c` (first half, second half, gather). For each of the three exchanges `w` and each peer: a send
   semaphore, raised when the copy to that peer has left (the source comes back), and for each device `j` a receive
   semaphore, raised when `j`'s block has landed (the slot comes with `j`'s values). A device's receive semaphore of its own
   is never used. Every cell has one round. -/
module

public import proofs.«01_k».proof.Proof.Own

@[expose] public section

set_option maxRecDepth 65536

noncomputable section

namespace Cert.KernelIdeal.Ulysses

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## Peers and slots -/

set_option backward.proofsInPublic true in
/-- The device `r + 1` places after `c`. -/
def peer (c : Dev nD) (r : Fin 7) : Dev nD := ⟨(c.val + r.val + 1) % 8, Nat.mod_lt _ (by decide)⟩

theorem peer_ne : ∀ (c : Dev nD) (r : Fin 7), peer c r ≠ c := by decide
theorem peer_rev : ∀ (c : Dev nD) (r : Fin 7), peer (peer c r) (Fin.rev r) = c := by decide
theorem peer_inj : ∀ (c : Dev nD) (r r' : Fin 7), peer c r = peer c r' → r = r' := by decide
theorem peers_all : ∀ c : Dev nD, (Finset.univ : Finset (Dev nD)) = (c :: peers.map (peer c)).toFinset := by decide
theorem peers_nodup : ∀ c : Dev nD, (c :: peers.map (peer c)).Nodup := by decide
theorem sends_all : ∀ c : Dev nD, (Finset.univ : Finset (Dev nD)) = (c :: sendOrder.map (peer c)).toFinset := by decide
theorem sends_nodup : ∀ c : Dev nD, (c :: sendOrder.map (peer c)).Nodup := by decide
theorem others_all : ∀ c : Dev nD, (Finset.univ : Finset (Dev nD)).erase c = (sendOrder.map (peer c)).toFinset := by decide
theorem others_nodup : ∀ c : Dev nD, (sendOrder.map (peer c)).Nodup := by decide

theorem sigDev_eq : ∀ (c : Dev nD) (r : Fin 7), sigDev c r = peer c r := by decide
theorem devA_eq : ∀ (c : Dev nD) (r : Fin 7), devA c r = peer c r := by decide
theorem devB_eq : ∀ (c : Dev nD) (r : Fin 7), devB c r = peer c r := by decide
theorem devG_eq : ∀ (c : Dev nD) (r : Fin 7), devG c r = peer c r := by decide

theorem slotInb : ∀ s : Fin 8, ∀ a, (![s.val, 0, 0] : Fin 3 → Nat) a + S1x32x1024.size a ≤ S8x32x1024.size a := by decide
abbrev slotR (s : Fin 8) : Rect S8x32x1024 := Rect.unit (s := S8x32x1024) ![s.val, 0, 0] S1x32x1024.size (slotInb s)
abbrev slot (b : Memref sig .tc .vmem S8x32x1024 .bf16) (s : Fin 8) : Memref sig .tc .vmem S1x32x1024 .bf16 := b.slice (slotR s) (fun _ => rfl)

theorem slotR_congr {o o' : Fin 3 → Nat} (h : o = o') (hi : ∀ a, o a + S1x32x1024.size a ≤ S8x32x1024.size a) (hi' : ∀ a, o' a + S1x32x1024.size a ≤ S8x32x1024.size a) :
    Rect.unit (s := S8x32x1024) o S1x32x1024.size hi = Rect.unit (s := S8x32x1024) o' S1x32x1024.size hi' := by subst h; rfl
theorem slot_congr (b : Memref sig .tc .vmem S8x32x1024 .bf16) {o o' : Fin 3 → Nat} (h : o = o') (hi : ∀ a, o a + S1x32x1024.size a ≤ S8x32x1024.size a) (hi' : ∀ a, o' a + S1x32x1024.size a ≤ S8x32x1024.size a) :
    b.slice (Rect.unit (s := S8x32x1024) o S1x32x1024.size hi) (fun _ => rfl) = b.slice (Rect.unit (s := S8x32x1024) o' S1x32x1024.size hi') (fun _ => rfl) := by subst h; rfl

theorem off5_peer : ∀ (c : Dev nD) (r : Fin 7), k0_off5 c (BitVec.ofNat 32 (1 + r.val)) = ![(peer c r).val, 0, 0] := by decide
theorem off8_peer : ∀ (c : Dev nD) (r : Fin 7), k0_off8 c (BitVec.ofNat 32 (1 + r.val)) = ![(peer c r).val, 0, 0] := by decide
theorem mySlot_eq (b : Memref sig .tc .vmem S8x32x1024 .bf16) (c : Dev nD) : mySlot b c = slot b c := slot_congr b (k0_off4_eq c) _ _
theorem peerSlot_eq (b : Memref sig .tc .vmem S8x32x1024 .bf16) (c : Dev nD) (r : Fin 7) : peerSlot b c r = slot b (peer c r) := slot_congr b (off5_peer c r) _ _

/-! ## Semaphores -/

theorem sndLt : ∀ (w : Fin 3) (r : Fin 7), 20 + 15 * w.val + r.val < 65 := by decide
theorem rcvLt : ∀ (w : Fin 3) (j : Fin 8), 27 + 15 * w.val + j.val < 65 := by decide
/-- The send semaphore of exchange `w` and peer `r`, and the receive semaphore for device `j`. -/
abbrev sndS (w : Fin 3) (r : Fin 7) : DmaSem sig := ⟨20 + 15 * w.val + r.val, sndLt w r⟩
abbrev rcvS (w : Fin 3) (j : Dev nD) : DmaSem sig := ⟨27 + 15 * w.val + j.val, rcvLt w j⟩

/-- The arrays of send and receive semaphores, and the landing buffer, of an exchange. -/
def sndA : Fin 3 → DmaSems sig S7 | 0 => cc0_scratch15 | 1 => cc0_scratch17 | 2 => cc0_scratch19
def rcvA : Fin 3 → DmaSems sig S8 | 0 => cc0_scratch16 | 1 => cc0_scratch18 | 2 => cc0_scratch20
def landB : Fin 3 → Memref sig .tc .vmem S8x32x1024 .bf16 | 0 => raB | 1 => rbB | 2 => gB

theorem sem7_eq : ∀ (w : Fin 3) (r : Fin 7), sem7 (sndA w) r = sndS w r := by decide
theorem mySem_eq : ∀ (w : Fin 3) (c : Dev nD), mySem (rcvA w) c = rcvS w c := by decide
theorem peerSem_eq : ∀ (w : Fin 3) (c : Dev nD) (r : Fin 7), peerSem (rcvA w) c r = rcvS w (peer c r) := by decide

/-- The cells of the protocol: the barrier, the send and the receive semaphores. -/
inductive Role | bar | snd (w : Fin 3) (r : Fin 7) | rcv (w : Fin 3) (j : Fin 8) | other
  deriving DecidableEq

/-- What a semaphore is for. -/
def roleOf : SemLoc sig → Role
  | .reg _ => .bar
  | .dma q => if 20 ≤ q.val then
      (if h : (q.val - 20) % 15 < 7 then .snd ⟨(q.val - 20) / 15 % 3, Nat.mod_lt _ (by decide)⟩ ⟨(q.val - 20) % 15, h⟩
        else .rcv ⟨(q.val - 20) / 15 % 3, Nat.mod_lt _ (by decide)⟩ ⟨((q.val - 20) % 15 - 7) % 8, Nat.mod_lt _ (by decide)⟩)
    else .other

theorem role_bar : roleOf (.reg barS) = .bar := rfl
theorem role_snd : ∀ (w : Fin 3) (r : Fin 7), roleOf (.dma (sndS w r)) = .snd w r := by decide
theorem role_rcv : ∀ (w : Fin 3) (j : Dev nD), roleOf (.dma (rcvS w j)) = .rcv w j := by decide
theorem role_low : ∀ q : DmaSem sig, q.val < 20 → roleOf (.dma q) = .other := by decide

abbrev barCell (c : Dev nD) : GSem nD τ sig := ((c : Thread nD τ), .reg barS)
abbrev sndCell (c : Dev nD) (w : Fin 3) (r : Fin 7) : GSem nD τ sig := ((c : Thread nD τ), .dma (sndS w r))
abbrev rcvCell (c : Dev nD) (w : Fin 3) (j : Dev nD) : GSem nD τ sig := ((c : Thread nD τ), .dma (rcvS w j))

/-- A block's credit. -/
abbrev N : ℕ := (slot raB 0).view.dmaCredit
theorem N_pos : 0 < N := View.dmaCredit_pos _ (by decide)

/-! ## Values -/

/-- Device `c`'s input, query weights' columns, output weights' rows. -/
def xv (c : Dev nD) : Vec F S1x256x1024 .f32 := (win0_0.blk (0 : Fin 1)).view.read (Elt F) (m ((c : Thread nD τ).loc main_arg0))
def wqv (c : Dev nD) : Vec F S1024x1024 .f32 := (wqSrc c).view.read (Elt F) (m ((c : Thread nD τ).loc main_arg1))
def wov (c : Dev nD) : Vec F S1024x1024 .f32 := (woSrc c).view.read (Elt F) (m ((c : Thread nD τ).loc main_arg4))
/-- A head of the keys, of the values, as copied. -/
def kv2 (c : Dev nD) (h : Fin 8) : Vec F S4096x128 .f32 := (kvSrc kA h).view.read (Elt F) (m ((c : Thread nD τ).loc main_arg2))
def vv2 (c : Dev nD) (h : Fin 8) : Vec F S4096x128 .f32 := (kvSrc vA h).view.read (Elt F) (m ((c : Thread nD τ).loc main_arg3))
/-- The same as loaded. -/
def unsq (X : Vec F S4096x128 .f32) : Vec F S1x4096x128 .f32 :=
  fun j => X ((Shape.reshapeEquiv (squeezes_S1x4096x128_S4096x128).numel_eq).symm j)
/-- The scaled queries, and one block of them. -/
def Qv (c : Dev nD) : FVec F S256x1024 .bf16 := k0_pay1 (xv m c) (wqv m c)
abbrev blkR (q : Fin 4) (h : Fin 8) : Rect S256x1024 := Rect.unit (s := S256x1024) ![64 * q.val, 128 * h.val] S64x128.size (blkInb q h)
def ctxBlk (c : Dev nD) (h : Fin 8) (q : Fin 4) : FVec F S64x128 .bf16 :=
  attVal q (unsq (kv2 m c h)) (unsq (vv2 m c h)) (fun j => Qv m c ((blkR q h).emb j))

set_option backward.proofsInPublic true in
/-- The attention of device `c`'s heads. -/
def ctxv (c : Dev nD) : FVec F S256x1024 .bf16 := fun i =>
  ctxBlk m c ⟨(i 1).val / 128 % 8, Nat.mod_lt _ (by decide)⟩ ⟨(i 0).val / 64 % 4, Nat.mod_lt _ (by decide)⟩
    (fun a => ⟨(i a).val % S64x128.size a, Nat.mod_lt _ (by revert a; decide)⟩)

abbrev colR (b : Fin 2) : Rect S256x1024 := Rect.unit (s := S256x1024) ![0, 512 * b.val] S256x512.size (colInb b)
abbrev rowR (b : Fin 2) : Rect S1024x1024 := Rect.unit (s := S1024x1024) ![512 * b.val, 0] S512x1024.size (rowInb b)
/-- Half `b` of device `c`'s share of the output product. -/
def part (c : Dev nD) (b : Fin 2) : FVec F S8x32x1024 .bf16 :=
  k0_pay40 (fun j => ctxv m c ((colR b).emb j)) (fun j => wov m c ((rowR b).emb j))
def partAt (c : Dev nD) (b : Fin 2) (s : Fin 8) : Vec F S1x32x1024 .bf16 := fun j => part m c b ((slotR s).emb j)
/-- Adding a peer's block. -/
def addPeer (c : Dev nD) (b : Fin 2) (x : FVec F S32x1024 .f32) (r : Fin 7) : FVec F S32x1024 .f32 := k0_pay85 x (partAt m (peer c r) b c)
def red0 (c : Dev nD) : FVec F S32x1024 .f32 := k0_pay84 (partAt m c 0 c) (partAt m c 1 c)
def red1 (c : Dev nD) : FVec F S32x1024 .f32 := peers.foldl (addPeer m c 0) (red0 m c)
def red2 (c : Dev nD) : FVec F S32x1024 .f32 := peers.foldl (addPeer m c 1) (red1 m c)
/-- The summed rows of device `c`. -/
def gv (c : Dev nD) : FVec F S1x32x1024 .bf16 := k0_pay102 (red2 m c)

set_option backward.proofsInPublic true in
def gAll : FVec F S8x32x1024 .bf16 := fun i =>
  gv m ⟨(i 0).val % 8, Nat.mod_lt _ (by decide)⟩ (fun a => ⟨(i a).val % S1x32x1024.size a, Nat.mod_lt _ (by revert a; decide)⟩)
def outv : FVec F S1x256x1024 .f32 := k0_pay103 (gAll m)

/-! ## The schedule -/

/-- A slot at some values. -/
abbrev slotAny (c : Dev nD) (b : Memref sig .tc .vmem S8x32x1024 .bf16) (s : Fin 8) : sProp 𝕄 := iprop(∃ X : Vec F S1x32x1024 .bf16, own c (slot b s) fullShare X)

/-- What `d`'s signal hands `c`: `d`'s landing slots for `c`. -/
def barPay (c d : Dev nD) : sProp 𝕄 := iprop(slotAny d raB c ∗ slotAny d rbB c ∗ slotAny d gB c)
/-- The share of the gathering slot lent to the send to peer `r`. -/
abbrev gShare (r : Fin 7) : PosShare TreeShare := shareTok fullShare 7 r
def sndPay (c : Dev nD) (w : Fin 3) (r : Fin 7) : sProp 𝕄 :=
  match w with
  | 0 => own c (slot paB (peer c r)) fullShare (partAt m c 0 (peer c r))
  | 1 => own c (slot pbB (peer c r)) fullShare (partAt m c 1 (peer c r))
  | 2 => own c (slot gB c) (gShare r) (gv m c)
def rcvPay (c : Dev nD) (w : Fin 3) (j : Dev nD) : sProp 𝕄 :=
  match w with
  | 0 => own c (slot raB j) fullShare (partAt m j 0 c)
  | 1 => own c (slot rbB j) fullShare (partAt m j 1 c)
  | 2 => own c (slot gB j) fullShare (gv m j)

/-- The duties of a cell of device `c`. -/
def duties1 (c : Dev nD) : Role → Finset (Dev nD)
  | .bar => Finset.univ.erase c
  | .snd _ _ => {c}
  | .rcv _ j => if j = c then ∅ else {j}
  | .other => ∅
def amount1 : Role → ℕ
  | .bar => 1
  | _ => N
def payload1 (c : Dev nD) (d : Dev nD) : Role → sProp 𝕄
  | .bar => barPay c d
  | .snd w r => sndPay m c w r
  | .rcv w j => rcvPay m c w j
  | .other => iprop(emp)

def Rd : Rounds.Schedule (GSem nD τ sig) (Dev nD) 𝕄 where
  duties g r := if r = 0 ∧ g.1.2 = .tc then duties1 g.1.1 (roleOf g.2) else ∅
  unitless _ := False
  amount g _ _ := amount1 (roleOf g.2)
  payload g _ d := payload1 m g.1.1 d (roleOf g.2)
  amount_pos g _ _ _ := by
    show 0 < amount1 (roleOf g.2)
    cases roleOf g.2 <;> first | exact Nat.one_pos | exact N_pos

instance sndPay_storable (c : Dev nD) (w : Fin 3) (r : Fin 7) : BI.Storable (upEmb : UEmb _ 𝕄) (sndPay m c w r) := by
  unfold sndPay own; split <;> infer_instance
instance rcvPay_storable (c : Dev nD) (w : Fin 3) (j : Dev nD) : BI.Storable (upEmb : UEmb _ 𝕄) (rcvPay m c w j) := by
  unfold rcvPay own; split <;> infer_instance
instance barPay_storable (c d : Dev nD) : BI.Storable (upEmb : UEmb _ 𝕄) (barPay (F := F) c d) := by
  unfold barPay slotAny own; infer_instance
instance Rd_payload_storable (g : GSem nD τ sig) (r : ℕ) (d : Dev nD) : BI.Storable (upEmb : UEmb _ 𝕄) ((Rd (F := F) m).payload g r d) := by
  show BI.Storable upEmb (payload1 m g.1.1 d (roleOf g.2))
  cases roleOf g.2 <;> dsimp only [payload1] <;> infer_instance

section Sched
variable (c : Dev nD) (w : Fin 3) (r : Fin 7) (j : Dev nD)

theorem duties_bar : (Rd (F := F) m).duties (barCell c) 0 = Finset.univ.erase c := by
  dsimp only [Rd]; rw [if_pos ⟨rfl, rfl⟩, role_bar]; rfl
theorem duties_snd : (Rd (F := F) m).duties (sndCell c w r) 0 = {c} := by
  dsimp only [Rd]; rw [if_pos ⟨rfl, rfl⟩, role_snd]; rfl
theorem duties_rcv (h : j ≠ c) : (Rd (F := F) m).duties (rcvCell c w j) 0 = {j} := by
  dsimp only [Rd]; rw [if_pos ⟨rfl, rfl⟩, role_rcv]; exact if_neg h
theorem duties_rcv_self : (Rd (F := F) m).duties (rcvCell c w c) 0 = ∅ := by
  dsimp only [Rd]; rw [if_pos ⟨rfl, rfl⟩, role_rcv]; exact if_pos rfl
theorem duties_later (g : GSem nD τ sig) : ∀ k, 1 ≤ k → (Rd (F := F) m).duties g k = ∅ :=
  fun k hk => by dsimp only [Rd]; rw [if_neg fun h => by omega]
theorem duties_rcv_never : ∀ k, 0 ≤ k → (Rd (F := F) m).duties (rcvCell c w c) k = ∅ := fun k _ => by
  rcases Nat.eq_zero_or_pos k with rfl | h
  · exact duties_rcv_self m c w
  · exact duties_later m _ k h

theorem amount_bar (d : Dev nD) : (Rd (F := F) m).amount (barCell c) 0 d = 1 := by dsimp only [Rd]; rw [role_bar]; rfl
theorem amount_snd (d : Dev nD) : (Rd (F := F) m).amount (sndCell c w r) 0 d = N := by dsimp only [Rd]; rw [role_snd]; rfl
theorem amount_rcv (d : Dev nD) : (Rd (F := F) m).amount (rcvCell c w j) 0 d = N := by dsimp only [Rd]; rw [role_rcv]; rfl

theorem expect_bar : (Rd (F := F) m).expect (barCell c) 0 = 7 := by
  unfold Schedule.expect Schedule.amountOf
  rw [duties_bar, Finset.sum_congr rfl fun d _ => amount_bar m c d, Finset.sum_const, Finset.card_erase_of_mem (Finset.mem_univ _), Finset.card_univ, Fintype.card_fin, smul_eq_mul]; rfl
theorem expect_snd : (Rd (F := F) m).expect (sndCell c w r) 0 = N := by
  unfold Schedule.expect Schedule.amountOf; rw [duties_snd, Finset.sum_singleton, amount_snd]
theorem expect_rcv (h : j ≠ c) : (Rd (F := F) m).expect (rcvCell c w j) 0 = N := by
  unfold Schedule.expect Schedule.amountOf; rw [duties_rcv m c w j h, Finset.sum_singleton, amount_rcv]

theorem payload_bar (d : Dev nD) : (Rd (F := F) m).payload (barCell c) 0 d = barPay c d := by dsimp only [Rd]; rw [role_bar]; rfl
theorem payload_snd (d : Dev nD) : (Rd (F := F) m).payload (sndCell c w r) 0 d = sndPay m c w r := by dsimp only [Rd]; rw [role_snd]; rfl
theorem payload_rcv (d : Dev nD) : (Rd (F := F) m).payload (rcvCell c w j) 0 d = rcvPay m c w j := by dsimp only [Rd]; rw [role_rcv]; rfl

theorem rest_bar : bigSep ((Rd (F := F) m).duties (barCell c) 0 \ ∅) (fun d => (Rd (F := F) m).payload (barCell c) 0 d)
    = bigSepL sendOrder fun r => barPay c (peer c r) := by
  rw [Finset.sdiff_empty, duties_bar, bigSep_eq_bigSepL_of_eq (sendOrder.map (peer c)) (others_all c) (others_nodup c), bigSepL_map]
  simp only [payload_bar]
theorem rest_snd : bigSep ((Rd (F := F) m).duties (sndCell c w r) 0 \ ∅) (fun d => (Rd (F := F) m).payload (sndCell c w r) 0 d) = sndPay m c w r := by
  rw [Finset.sdiff_empty, duties_snd, bigSep_singleton, payload_snd]
theorem rest_rcv (h : j ≠ c) : bigSep ((Rd (F := F) m).duties (rcvCell c w j) 0 \ ∅) (fun d => (Rd (F := F) m).payload (rcvCell c w j) 0 d) = rcvPay m c w j := by
  rw [Finset.sdiff_empty, duties_rcv m c w j h, bigSep_singleton, payload_rcv]

end Sched

/-! ## What is owed; levels -/

/-- A tally along a list of peers. -/
def tl (f : Fin 7 → CellTallies nD τ sig Unit) : List (Fin 7) → CellTallies nD τ sig Unit
  | [] => 0
  | r :: l => tl f l + f r

abbrev owB (c : Dev nD) (r : Fin 7) : CellTallies nD τ sig Unit := tallyAt (barCell (peer c r)) () 1
abbrev owX (c : Dev nD) (w : Fin 3) (r : Fin 7) : CellTallies nD τ sig Unit := tallyAt (rcvCell (peer c r) w c) () N

/-- What is owed for the signals and sends still to come. -/
abbrev owed4 (c : Dev nD) (b x0 x1 x2 : List (Fin 7)) : CellTallies nD τ sig Unit :=
  tl (owX c 2) x2 + tl (owX c 1) x1 + tl (owX c 0) x0 + tl (owB c) b
def O₀ (c : Dev nD) : CellTallies nD τ sig Unit := owed4 c peers sendOrder sendOrder sendOrder

def L (g : GSem nD τ sig) : Finset Unit := if g.1.2 = .tc then {()} else ∅
def lv1 : Role → ℕ
  | .bar => 1
  | .rcv w _ => if w = 2 then 3 else 2
  | _ => 0
def lv (g : GSem nD τ sig) (_ : Unit) : ℕ := lv1 (roleOf g.2)

theorem L_of_ne (g : GSem nD τ sig) (h : g.1.2 ≠ .tc) : L g = ∅ := if_neg h
theorem L_tc (c : Dev nD) (sm : SemLoc sig) : L ((c : Thread nD τ), sm) = {()} := if_pos rfl

theorem tl_pos {f : Fin 7 → CellTallies nD τ sig Unit} {l : List (Fin 7)} {g : GSem nD τ sig} {u : Unit} (h : 0 < tl f l g u) : ∃ r ∈ l, 0 < f r g u := by
  induction l with
  | nil => exact absurd h (Nat.lt_irrefl 0)
  | cons r l ih =>
    rw [tl, Pi.add_apply, Finsupp.add_apply] at h
    rcases Nat.add_pos_iff_pos_or_pos.mp h with h | h
    · obtain ⟨s, hs, h⟩ := ih h
      exact ⟨s, List.mem_cons_of_mem _ hs, h⟩
    · exact ⟨r, List.mem_cons_self, h⟩

/-- A positive debt is to a barrier cell, if signals are owed, or to a receive cell of an exchange whose sends are owed. -/
theorem owed4_pos {c : Dev nD} {b x0 x1 x2 : List (Fin 7)} {g : GSem nD τ sig} {u : Unit} (h : 0 < owed4 c b x0 x1 x2 g u) :
    (b ≠ [] ∧ ∃ d, g = barCell d) ∨ (x0 ≠ [] ∧ ∃ d, g = rcvCell d 0 c) ∨ (x1 ≠ [] ∧ ∃ d, g = rcvCell d 1 c) ∨ (x2 ≠ [] ∧ ∃ d, g = rcvCell d 2 c) := by
  unfold owed4 at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨r, hr, h⟩ := tl_pos h
        exact .inr (.inr (.inr ⟨List.ne_nil_of_mem hr, _, (Pipeline.tallyAt_pos h).1⟩))
      · obtain ⟨r, hr, h⟩ := tl_pos h
        exact .inr (.inr (.inl ⟨List.ne_nil_of_mem hr, _, (Pipeline.tallyAt_pos h).1⟩))
    · obtain ⟨r, hr, h⟩ := tl_pos h
      exact .inr (.inl ⟨List.ne_nil_of_mem hr, _, (Pipeline.tallyAt_pos h).1⟩)
  · obtain ⟨r, hr, h⟩ := tl_pos h
    exact .inl ⟨List.ne_nil_of_mem hr, _, (Pipeline.tallyAt_pos h).1⟩

theorem lv_bar (d : Dev nD) : lv (barCell d) () = 1 := by unfold lv; rw [role_bar]; rfl
theorem lv_rcv (d : Dev nD) (w : Fin 3) (j : Dev nD) : lv (rcvCell d w j) () = if w = 2 then 3 else 2 := by unfold lv; rw [role_rcv]; rfl
theorem lv_snd (d : Dev nD) (w : Fin 3) (r : Fin 7) : lv (sndCell d w r) () = 0 := by unfold lv; rw [role_snd]; rfl

/-- A wait at a level under everything owed. -/
theorem mayWait_of_lv (c : Dev nD) (sm : SemLoc sig) (O : CellTallies nD τ sig Unit)
    (h : ∀ g u, 0 < O g u → (∃ d : Dev nD, ∃ s, g = ((d : Thread nD τ), s)) ∧ lv ((c : Thread nD τ), sm) () < lv g ()) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by obtain ⟨⟨d, s, rfl⟩, -⟩ := h g u hg; rw [L_tc]; exact Finset.mem_singleton_self _)
    (fun p hp => by rw [Finset.mem_singleton.mp hp])
    (fun g u hg => (h g u hg).2)

theorem mayWait_low (c : Dev nD) (q : DmaSem sig) (hq : q.val < 20) (b x0 x1 x2 : List (Fin 7)) :
    (levAts L lv : sProp 𝕄) ⊢ MayWait (c : Thread nD τ) (.dma q) () (owed4 c b x0 x1 x2) :=
  mayWait_of_lv c _ _ fun g u hg => by
    have e : lv ((c : Thread nD τ), .dma q) () = 0 := by unfold lv; rw [role_low q hq]; rfl
    rw [e]
    rcases owed4_pos hg with ⟨-, d, rfl⟩ | ⟨-, d, rfl⟩ | ⟨-, d, rfl⟩ | ⟨-, d, rfl⟩
    · exact ⟨⟨_, _, rfl⟩, by rw [lv_bar]; decide⟩
    all_goals exact ⟨⟨_, _, rfl⟩, by rw [lv_rcv]; decide⟩

theorem mayWait_bar (c : Dev nD) (x0 x1 x2 : List (Fin 7)) :
    (levAts L lv : sProp 𝕄) ⊢ MayWait (c : Thread nD τ) (.reg barS) () (owed4 c [] x0 x1 x2) :=
  mayWait_of_lv c _ _ fun g u hg => by
    rw [lv_bar]
    rcases owed4_pos hg with ⟨h, -⟩ | ⟨-, d, rfl⟩ | ⟨-, d, rfl⟩ | ⟨-, d, rfl⟩
    · exact absurd rfl h
    all_goals exact ⟨⟨_, _, rfl⟩, by rw [lv_rcv]; decide⟩

/-- A wait for a landing of the first two exchanges while only sends of the third are owed. -/
theorem mayWait_rcv (c : Dev nD) (w : Fin 3) (hw : w ≠ 2) (j : Dev nD) (x2 : List (Fin 7)) :
    (levAts L lv : sProp 𝕄) ⊢ MayWait (c : Thread nD τ) (.dma (rcvS w j)) () (owed4 c [] [] [] x2) :=
  mayWait_of_lv c _ _ fun g u hg => by
    rw [lv_rcv c w j, if_neg hw]
    rcases owed4_pos hg with ⟨h, -⟩ | ⟨h, -⟩ | ⟨h, -⟩ | ⟨-, d, rfl⟩
    · exact absurd rfl h
    · exact absurd rfl h
    · exact absurd rfl h
    · exact ⟨⟨_, _, rfl⟩, by rw [lv_rcv]; decide⟩

end Cert.KernelIdeal.Ulysses
-- ==== Proof.Steps.lean ====
/- The steps of the protocol on one device: signal, barrier wait, send, receive, drain. -/
module

public import proofs.«01_k».proof.Proof.Protocol

@[expose] public section

set_option maxRecDepth 65536

noncomputable section

namespace Cert.KernelIdeal.Ulysses

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, and what every device knows of them -/

/-- The cells of a device: the barrier; for each exchange the send and the receive semaphores. -/
abbrev CK : Type := Unit ⊕ (Fin 3 × (Fin 7 ⊕ Fin 8))
def csem : CK → SemLoc sig
  | .inl _ => .reg barS
  | .inr (w, .inl r) => .dma (sndS w r)
  | .inr (w, .inr j) => .dma (rcvS w j)
abbrev kcell (ck : Dev nD × CK) : GSem nD τ sig := ((ck.1 : Thread nD τ), csem ck.2)

def records (K : Dev nD × CK → ℕ) : sProp 𝕄 :=
  iprop((bigSep Finset.univ fun ck : Dev nD × CK => cellInv ER (Rd m) (K ck) (kcell ck)) ∗ bigSep Finset.univ fun ck : Dev nD × CK => reached ER (kcell ck) 0)

/-- The cells' invariants, that each cell is at its round, and the levels. -/
def know (K : Dev nD × CK → ℕ) : sProp 𝕄 := iprop(records m K ∗ levAts L lv)

instance records_persistent (K : Dev nD × CK → ℕ) : BI.Persistent (records m K) := by unfold records; infer_instance
instance know_persistent (K : Dev nD × CK → ℕ) : BI.Persistent (know m K) := by unfold know; infer_instance

theorem big_at {ι : Type} [Fintype ι] [DecidableEq ι] (Φ : ι → sProp 𝕄) (i : ι) : bigSep Finset.univ Φ ⊢ Φ i := bigSep_elim (Finset.mem_univ i)

theorem know_cell (K : Dev nD × CK → ℕ) (ck : Dev nD × CK) : know m K ⊢ iprop(cellInv ER (Rd m) (K ck) (kcell ck) ∗ reached ER (kcell ck) 0) := by
  unfold know records
  iintro ⟨⟨#HI, #HR⟩, -⟩
  isplitr
  · iapply (big_at (fun ck : Dev nD × CK => cellInv ER (Rd m) (K ck) (kcell ck)) ck); iexact HI
  · iapply (big_at (fun ck : Dev nD × CK => reached ER (kcell ck) 0) ck); iexact HR

theorem know_lev (K : Dev nD × CK → ℕ) : know m K ⊢ levAts L lv := by
  unfold know; iintro ⟨-, H⟩; iexact H

/-- What a device owes, whatever it has waited for. -/
abbrev owesAny (c : Dev nD) (O : CellTallies nD τ sig Unit) : sProp 𝕄 := iprop(∃ W, owes (c : Thread nD τ) O W)

section Steps

variable (K : Dev nD × CK → ℕ) (c : Dev nD)

theorem wpc_ret {α : Type} (a : α) (Q : α → sProp 𝕄) : Q a ⊢ wpc c (.ret a) Q := by
  unfold wpc; rw [wp_ret]; exact fupd_intro

/-- A signal to a peer's barrier, with this device's landing slots for it. -/
theorem step_sig (r : Fin 7) (O : CellTallies nD τ sig Unit) (Q : PUnit → sProp 𝕄) :
    iprop(know m K ∗ owesAny c (O + owB c r) ∗ dutyTok ER (barCell (peer c r)) 0 c ∗ barPay (peer c r) c ∗ (owesAny c O -∗ Q ⟨⟩))
      ⊢ wpc c (sig1 c r) Q := by
  unfold sig1 wpc
  rw [sigDev_eq]
  simp only [semSignalWord]
  iintro ⟨#Hk, ⟨%W, HO⟩, Ht, Hp, HQ⟩
  ihave Hc := (know_cell m K (peer c r, .inl ())) $$ Hk
  icases Hc with ⟨#HI, #HR⟩
  iapply (Rounds.wp_signal 𝒱₀ ER (Rd m) (c : Thread nD τ) none (dst := (peer c r : Thread nD τ)) (κ := K (peer c r, .inl ()))
      (d := c) (by rw [duties_bar]; exact Finset.mem_erase.mpr ⟨(peer_ne c r).symm, Finset.mem_univ _⟩)
      ((amount_bar m (peer c r) c).trans (by decide)) () O rfl) $$ [HO Ht Hp]
  · isplitr; · iexact HI
    isplitl [HO]; · iexact HO
    isplitl [Ht]; · iexact Ht
    isplitl [Hp]
    · rw [payload_bar]; iexact Hp
    · iexact HR
  iintro HO
  iapply (wpc_ret c)
  iapply HQ
  iexists W; iexact HO

/-- The wait on the barrier: the peers' landing slots for this device. -/
theorem step_bar (x0 x1 x2 : List (Fin 7)) (Q : PUnit → sProp 𝕄) :
    iprop(know m K ∗ owesAny c (owed4 c [] x0 x1 x2) ∗ cred (tallyAt (barCell c) () 7) ∗ atPos ER (barCell c) 0 ∅ 0
        ∗ (iprop(owesAny c (owed4 c [] x0 x1 x2) ∗ semVal (barCell c) 0 ∗ bigSepL sendOrder fun r => barPay c (peer c r)) -∗ Q ⟨⟩))
      ⊢ wpc c (semWaitWord barS 7#32) Q := by
  simp only [semWaitWord]
  unfold wpc
  iintro ⟨#Hk, ⟨%W, HO⟩, Hc, Ha, HQ⟩
  ihave Hc' := (know_cell m K (c, .inl ())) $$ Hk
  icases Hc' with ⟨#HI, -⟩
  iapply (Rounds.wp_wait_rest_token 𝒱₀ ER (Rd m) (c : Thread nD τ) none (κ := K (c, .inl ()))
      (wpE_semWait_eq 𝒱₀ (c : Thread nD τ) none Set.univ) (Set.mem_univ _) () (O := owed4 c [] x0 x1 x2) (W := W) (R := 0) (m := 0) (T := ∅)
      (by rw [expect_bar]; decide)) $$ [Hc HO Ha]
  · isplitr; · iexact HI
    isplitl [Hc]; · iexact Hc
    isplitl [HO]; · iexact HO
    isplitr; · iapply (mayWait_bar c); iapply (know_lev m K); iexact Hk
    iexact Ha
  iintro ⟨HO, Ha, -, Hp⟩
  ihave Hp := (Entails.of_eq (rest_bar m c)) $$ Hp
  imod (Rounds.cell_close ER (Rd m) (κ := K (c, .inl ())) (Set.mem_univ _) (fun h => h) (R := 0 + 1) (duties_later m (barCell c))) $$ [Ha] with Hv
  · isplitr; · iexact HI
    iexact Ha
  iapply (wpc_ret c)
  iapply HQ
  isplitl [HO]; · iexists _; iexact HO
  isplitl [Hv]; · iexact Hv
  iexact Hp

/-- A copy to a peer. -/
theorem step_send {α : Type} (w : Fin 3) (r : Fin 7) (O : CellTallies nD τ sig Unit) (src dst : Memref sig .tc .vmem S1x32x1024 .bf16) (q : PosShare TreeShare)
    (X : Vec F S1x32x1024 .bf16) (n : Dev nD) (sS rS : DmaSem sig) (hn : n = peer c r) (hdst : dst = slot (landB w) c) (hsS : sS = sndS w r) (hrS : rS = rcvS w c)
    (hp1 : own c src q X ⊢ sndPay m c w r) (hp2 : own (peer c r) (slot (landB w) c) fullShare X ⊢ rcvPay m (peer c r) w c)
    {hsc : dst.view.ref.isScScratch = false} {hws : src.view.WordExact} {hwd : dst.view.WordExact}
    {hsem : DmaTarget.Typed .vmem (.dma rS) (.remote (Dev.tc n : Thread nD τ) dst (.dma sS) hsc)} {k : PUnit → Code F α} (Q : α → sProp 𝕄) :
    iprop(know m K ∗ own c src q X ∗ slotAny (peer c r) (landB w) c ∗ owesAny c (O + owX c w r) ∗ dutyTok ER (sndCell c w r) 0 c ∗ dutyTok ER (rcvCell (peer c r) w c) 0 c
        ∗ (iprop(cred (tallyAt (sndCell c w r) () N) ∗ owesAny c O) -∗ wpc c (k ⟨⟩) Q))
      ⊢ wpc c (.op (.enqueueDma src (.remote (Dev.tc n : Thread nD τ) dst (.dma sS) hsc) (.dma rS) hws hwd hsem) k) Q := by
  subst hn hdst hsS hrS
  unfold wpc
  iintro ⟨#Hk, Hs, ⟨%Y, Hd⟩, ⟨%W, HO⟩, Ht1, Ht2, HQ⟩
  ihave Hc := (know_cell m K (c, .inr (w, .inl r))) $$ Hk
  icases Hc with ⟨#HI1, #HR1⟩
  ihave Hc := (know_cell m K (peer c r, .inr (w, .inr c))) $$ Hk
  icases Hc with ⟨#HI2, #HR2⟩
  ihave Hs := (own_open c src q X) $$ Hs
  ihave Hd := (own_open (peer c r) (slot (landB w) c) fullShare Y) $$ Hd
  icases Hs with ⟨%f, %hf, Hs⟩
  icases Hd with ⟨%g, %hg, Hd⟩
  iapply (Rounds.wp_send_pointsTo 𝒱₀ ER (Rd m) (c : Thread nD τ) none (κ₁ := K (c, .inr (w, .inl r))) (κ₂ := K (peer c r, .inr (w, .inr c)))
    (r₁ := 0) (r₂ := 0) (d₁ := c) (d₂ := c) (fd := g)
    (by rw [duties_snd]; exact Finset.mem_singleton_self _) (by rw [duties_rcv m _ w c (peer_ne c r).symm]; exact Finset.mem_singleton_self _)
    () () N (by revert w; intro w; match w with | 0 => intros; rfl | 1 => intros; rfl | 2 => intros; rfl) (amount_snd m c w r c) (amount_rcv m (peer c r) w c c) O rfl (W := W)
    (by rw [payload_snd]; exact (own_close c src q f hf).trans hp1)
    (by rw [payload_rcv]; exact (own_close (peer c r) (slot (landB w) c) fullShare _ ((View.read_write_univ _ _).trans hf)).trans hp2)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply HQ
  isplitl [Hc]; · iexact Hc
  iexists W; iexact HO

/-- The wait for a peer's block. -/
theorem step_rcv {α : Type} (w : Fin 3) (j : Dev nD) (hj : j ≠ c) (O : CellTallies nD τ sig Unit) (src dst : Memref sig .tc .vmem S1x32x1024 .bf16) (sm : DmaSem sig)
    (hsm : sm = rcvS w j) (hN : dst.view.dmaCredit = N) (hO : (levAts L lv : sProp 𝕄) ⊢ MayWait (c : Thread nD τ) (.dma (rcvS w j)) () O)
    {hws : src.view.WordExact} {hwd : dst.view.WordExact} {k : PUnit → Code F α} (Q : α → sProp 𝕄) :
    iprop(know m K ∗ owesAny c O ∗ cred (tallyAt (rcvCell c w j) () N) ∗ atPos ER (rcvCell c w j) 0 ∅ 0
        ∗ (iprop(owesAny c O ∗ rcvPay m c w j ∗ semVal (rcvCell c w j) 0) -∗ wpc c (k ⟨⟩) Q))
      ⊢ wpc c (.op (.waitDma2 sm src dst hws hwd) k) Q := by
  subst hsm
  unfold wpc
  iintro ⟨#Hk, ⟨%W, HO⟩, Hc, Ha, HQ⟩
  ihave Hc' := (know_cell m K (c, .inr (w, .inr j))) $$ Hk
  icases Hc' with ⟨#HI, -⟩
  iapply (Rounds.wp_wait_rest_token 𝒱₀ ER (Rd m) (c : Thread nD τ) none (κ := K (c, .inr (w, .inr j))) (k' := dst.view.dmaCredit)
      (wpE_waitDma2_eq 𝒱₀ (c : Thread nD τ) none Set.univ) (Set.mem_univ _) () (O := O) (W := W) (R := 0) (m := 0) (T := ∅)
      (by rw [Nat.zero_add, hN, expect_rcv m c w j hj])) $$ [Hc HO Ha]
  · isplitr; · iexact HI
    isplitl [Hc]; · rw [hN]; iexact Hc
    isplitl [HO]; · iexact HO
    isplitr; · iapply hO; iapply (know_lev m K); iexact Hk
    iexact Ha
  iintro ⟨HO, Ha, -, Hp⟩
  ihave Hp := (Entails.of_eq (rest_rcv m c w j hj)) $$ Hp
  imod (Rounds.cell_close ER (Rd m) (κ := K (c, .inr (w, .inr j))) (Set.mem_univ _) (fun h => h) (R := 0 + 1) (duties_later m (rcvCell c w j))) $$ [Ha] with Hv
  · isplitr; · iexact HI
    iexact Ha
  iapply HQ
  isplitl [HO]; · iexists _; iexact HO
  isplitl [Hp]; · iexact Hp
  iexact Hv

/-- The wait until a copy to a peer has left. -/
theorem step_drain {α : Type} (w : Fin 3) (r : Fin 7) (src dst : Memref sig .tc .vmem S1x32x1024 .bf16) (sm : DmaSem sig)
    (hsm : sm = sndS w r) (hN : dst.view.dmaCredit = N) {hws : src.view.WordExact} {hwd : dst.view.WordExact} {k : PUnit → Code F α} (Q : α → sProp 𝕄) :
    iprop(know m K ∗ owesAny c 0 ∗ cred (tallyAt (sndCell c w r) () N) ∗ atPos ER (sndCell c w r) 0 ∅ 0
        ∗ (iprop(owesAny c 0 ∗ sndPay m c w r ∗ semVal (sndCell c w r) 0) -∗ wpc c (k ⟨⟩) Q))
      ⊢ wpc c (.op (.waitDma2 sm src dst hws hwd) k) Q := by
  subst hsm
  unfold wpc
  iintro ⟨#Hk, ⟨%W, HO⟩, Hc, Ha, HQ⟩
  ihave Hc' := (know_cell m K (c, .inr (w, .inl r))) $$ Hk
  icases Hc' with ⟨#HI, -⟩
  iapply (Rounds.wp_wait_rest_token 𝒱₀ ER (Rd m) (c : Thread nD τ) none (κ := K (c, .inr (w, .inl r))) (k' := dst.view.dmaCredit)
      (wpE_waitDma2_eq 𝒱₀ (c : Thread nD τ) none Set.univ) (Set.mem_univ _) () (O := 0) (W := W) (R := 0) (m := 0) (T := ∅)
      (by rw [Nat.zero_add, hN, expect_snd m c w r])) $$ [Hc HO Ha]
  · isplitr; · iexact HI
    isplitl [Hc]; · rw [hN]; iexact Hc
    isplitl [HO]; · iexact HO
    isplitr; · rw [MayWait_zero]; iempintro
    iexact Ha
  iintro ⟨HO, Ha, -, Hp⟩
  ihave Hp := (Entails.of_eq (rest_snd m c w r)) $$ Hp
  imod (Rounds.cell_close ER (Rd m) (κ := K (c, .inr (w, .inl r))) (Set.mem_univ _) (fun h => h) (R := 0 + 1) (duties_later m (sndCell c w r))) $$ [Ha] with Hv
  · isplitr; · iexact HI
    iexact Ha
  iapply HQ
  isplitl [HO]; · iexists _; iexact HO
  isplitl [Hp]; · iexact Hp
  iexact Hv

/-- A device's receive semaphore of its own is closed unused. -/
theorem step_own_cell (w : Fin 3) : iprop(know m K ∗ atPos ER (rcvCell c w c) 0 ∅ 0) ⊢ (iprop(|={Set.univ}=> semVal (rcvCell c w c) 0) : sProp 𝕄) := by
  iintro ⟨#Hk, Ha⟩
  ihave Hc' := (know_cell m K (c, .inr (w, .inr c))) $$ Hk
  icases Hc' with ⟨#HI, -⟩
  iapply (Rounds.cell_close ER (Rd m) (κ := K (c, .inr (w, .inr c))) (Set.mem_univ _) (fun h => h) (R := 0) (duties_rcv_never m c w))
  isplitr; · iexact HI
  iexact Ha

end Steps

end Cert.KernelIdeal.Ulysses
-- ==== Proof.Bufs.lean ====
/- Owning parts of a buffer: shares, squeezed slices, slots, heads. -/
module

public import proofs.«01_k».proof.Proof.Steps

@[expose] public section

set_option maxRecDepth 65536

noncomputable section

namespace Cert.KernelIdeal.Ulysses

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Bufs

variable (c : Dev nD)

/-! ## Owning at given contents; shares; a squeezed memref -/

theorem own_as {sp : Space} {sh : Shape} {e : EltTy} (b : Memref sig .tc sp sh e) (q : PosShare TreeShare) {X : sh.Idx → Elt F e}
    (f : Buf (Elt F) (b.view.loc (c : Thread nD τ))) (hf : b.view.read (Elt F) f = X) :
    own c b q X ⊢ (b.view.loc (c : Thread nD τ) ↦[b.view.set]{q} f : sProp 𝕄) := by
  iintro H
  ihave H := (own_open c b q X) $$ H
  icases H with ⟨%g, %hg, H⟩
  have e : (b.view.loc (c : Thread nD τ) ↦[b.view.set]{q} g : sProp 𝕄) = (b.view.loc (c : Thread nD τ) ↦[b.view.set]{q} f) := pointsTo_congr (by
    intro i hi
    rw [View.set, Finset.mem_map] at hi
    obtain ⟨j, -, rfl⟩ := hi
    have := congrFun (hg.trans hf.symm) j
    rw [View.read_apply, View.read_apply] at this
    exact (cast_bijective _).1 this)
  iapply (Entails.of_eq e); iexact H

/-- A memref dealt into a rest and `n` read shares. -/
theorem own_toks_split {sp : Space} {sh : Shape} {e : EltTy} (b : Memref sig .tc sp sh e) (q : PosShare TreeShare) (n : ℕ) (X : sh.Idx → Elt F e) :
    own c b q X ⊢ (iprop(own c b (shareDrop q n) X ∗ bigSep Finset.univ fun i : Fin n => own c b (shareTok q n i) X) : sProp 𝕄) := by
  iintro H
  ihave H := (own_open c b q X) $$ H
  icases H with ⟨%g, %hg, H⟩
  ihave H := (pointsTo_toks_split q n) $$ H
  icases H with ⟨H1, H2⟩
  isplitl [H1]
  · iapply (own_close c b _ g hg); iexact H1
  · iapply (show bigSep Finset.univ (fun i : Fin n => (b.view.loc (c : Thread nD τ) ↦[b.view.set]{shareTok q n i} g : sProp 𝕄)) ⊢ bigSep Finset.univ fun i : Fin n => own c b (shareTok q n i) X from
      bigSep_mono fun i _ => own_close c b _ g hg)
    iexact H2

/-- The rest and the shares joined. -/
theorem own_toks_join {sp : Space} {sh : Shape} {e : EltTy} (b : Memref sig .tc sp sh e) (q : PosShare TreeShare) (n : ℕ) (X : sh.Idx → Elt F e) :
    iprop(own c b (shareDrop q n) X ∗ bigSep Finset.univ fun i : Fin n => own c b (shareTok q n i) X) ⊢ (own c b q X : sProp 𝕄) := by
  iintro ⟨H1, H2⟩
  ihave H1 := (own_open c b _ X) $$ H1
  icases H1 with ⟨%g, %hg, H1⟩
  iapply (own_close c b q g hg)
  iapply (pointsTo_toks_join q n)
  isplitl [H1]; · iexact H1
  iapply (show bigSep Finset.univ (fun i : Fin n => own c b (shareTok q n i) X) ⊢ bigSep Finset.univ (fun i : Fin n => (b.view.loc (c : Thread nD τ) ↦[b.view.set]{shareTok q n i} g : sProp 𝕄)) from
      bigSep_mono fun i _ => own_as c b _ g hg)
  iexact H2

theorem own_squeeze {sp : Space} {sh sh' : Shape} {e : EltTy} (b : Memref sig .tc sp sh e) (h : sh.Squeezes sh') (q : PosShare TreeShare) (X : sh.Idx → Elt F e) :
    own c b q X ⊢ (own c (b.squeeze sh' h) q (fun j => X (Shape.reshapeEquiv h.numel_eq j)) : sProp 𝕄) := by
  iintro H
  ihave H := (own_open c b q X) $$ H
  icases H with ⟨%g, %hg, H⟩
  iapply (own_close c (b.squeeze sh' h) q g (by subst hg; rfl))
  rw [show (b.squeeze sh' h).view.set = b.view.set from View.set_reshape _ _]
  iexact H

theorem own_unsqueeze {sp : Space} {sh sh' : Shape} {e : EltTy} (b : Memref sig .tc sp sh e) (h : sh.Squeezes sh') (q : PosShare TreeShare) (Y : sh'.Idx → Elt F e) :
    own c (b.squeeze sh' h) q Y ⊢ (own c b q (fun j => Y ((Shape.reshapeEquiv h.numel_eq).symm j)) : sProp 𝕄) := by
  iintro H
  ihave H := (own_open c (b.squeeze sh' h) q Y) $$ H
  icases H with ⟨%g, %hg, H⟩
  iapply (own_close c b q g (by
    subst hg
    funext j
    show _ = (b.view.reshape sh' h.numel_eq).read (Elt F) g _
    have : ∀ i, (b.view.reshape sh' h.numel_eq).read (Elt F) g i = b.view.read (Elt F) g (Shape.reshapeEquiv h.numel_eq i) := fun i => rfl
    rw [this, Equiv.apply_symm_apply]))
  rw [show (b.squeeze sh' h).view.set = b.view.set from View.set_reshape _ _]
  iexact H

/-! ## Pieces of a memref -/

omit [FloatOps F] in
/-- Values given on disjoint rectangles, as values of the whole. -/
theorem glue {sh : Shape} {T : Type} {A : Type} [Nonempty A] (r : T → Rect sh) (hd : ∀ t t', t ≠ t' → Disjoint (r t).set (r t').set) (Y : ∀ t, (r t).shape.Idx → A) :
    ∃ X : sh.Idx → A, ∀ t, Y t = fun j => X ((r t).emb j) := by
  classical
  refine ⟨fun i => if h : ∃ p : (Σ t, (r t).shape.Idx), (r p.1).emb p.2 = i then Y h.choose.1 h.choose.2 else Classical.arbitrary A, fun t => funext fun j => ?_⟩
  have h : ∃ p : (Σ t, (r t).shape.Idx), (r p.1).emb p.2 = (r t).emb j := ⟨⟨t, j⟩, rfl⟩
  show _ = dite _ _ _
  rw [dif_pos h]
  have key : ∀ p : (Σ t, (r t).shape.Idx), (r p.1).emb p.2 = (r t).emb j → p = ⟨t, j⟩ := by
    rintro ⟨t', j'⟩ hp
    by_cases ht : t' = t
    · subst ht
      exact congrArg _ ((r t').emb.injective hp)
    · exact absurd ((r t).idx_mem j) (Finset.disjoint_left.mp (hd t' t ht) (by rw [show (r t).idx j = (r t').idx j' from hp.symm]; exact (r t').idx_mem j'))
  rw [key h.choose h.choose_spec]

theorem own_join_any {sp : Space} {sh : Shape} {e : EltTy} [∀ e, Nonempty (Elt F e)] {T : Type} [Fintype T] [DecidableEq T] (b : Memref sig .tc sp sh e) (r : T → Rect sh) (hr : ∀ t a, (r t).stride a = 1)
    (hd : ∀ t t', t ≠ t' → Disjoint (r t).set (r t').set) (hcov : Finset.univ.biUnion (fun t => (r t).set) = Finset.univ) :
    (bigSep Finset.univ fun t => iprop(∃ Y : (r t).shape.Idx → Elt F e, own c (b.slice (r t) (hr t)) fullShare Y)) ⊢ (iprop(∃ X : sh.Idx → Elt F e, own c b fullShare X) : sProp 𝕄) := by
  iintro H
  ihave H := (bigSep_exists_pi (M := 𝕄) Finset.univ (fun t (Y : (r t).shape.Idx → Elt F e) => own c (b.slice (r t) (hr t)) fullShare Y)) $$ H
  icases H with ⟨%Y, H⟩
  obtain ⟨X, hX⟩ := glue r hd Y
  simp only [hX]
  iexists X
  iapply (owns_of_rects (c : Thread nD τ) b fullShare r hr hd hcov X)
  iexact H

omit [FloatOps F] in
theorem disj_of_key {sh : Shape} {T : Type} (r : T → Rect sh) (key : sh.Idx → T) (h : ∀ t i, i ∈ (r t).set ↔ key i = t) :
    ∀ t t', t ≠ t' → Disjoint (r t).set (r t').set := fun t t' ht =>
  Finset.disjoint_left.mpr fun i hi hi' => ht (((h t i).mp hi).symm.trans ((h t' i).mp hi'))
omit [FloatOps F] in
theorem cover_of_key {sh : Shape} {T : Type} [Fintype T] [DecidableEq T] (r : T → Rect sh) (key : sh.Idx → T) (h : ∀ t i, i ∈ (r t).set ↔ key i = t) :
    Finset.univ.biUnion (fun t => (r t).set) = Finset.univ :=
  Finset.eq_univ_iff_forall.mpr fun i => Finset.mem_biUnion.mpr ⟨key i, Finset.mem_univ _, (h _ i).mpr rfl⟩

/-! ## Slots -/

set_option backward.proofsInPublic true in
def slotKey (i : S8x32x1024.Idx) : Fin 8 := ⟨(i 0).val, (i 0).isLt⟩
omit [FloatOps F] in
theorem slot_key (s : Fin 8) (i : S8x32x1024.Idx) : i ∈ (slotR s).set ↔ slotKey i = s := by
  have h0 : (i 0).val < 8 := (i 0).isLt
  have h1 : (i 1).val < 32 := (i 1).isLt
  have h2 : (i 2).val < 1024 := (i 2).isLt
  rw [Rect.mem_set_unit]
  constructor
  · intro h
    obtain ⟨a, b⟩ := h 0
    have a : s.val ≤ (i 0).val := a
    have b : (i 0).val < s.val + 1 := b
    exact Fin.ext (by show (i 0).val = s.val; omega)
  · rintro rfl a
    match a with
    | 0 => exact ⟨Nat.le_refl _, Nat.lt_succ_self _⟩
    | 1 => exact ⟨Nat.zero_le _, by show (i 1).val < 0 + 32; omega⟩
    | 2 => exact ⟨Nat.zero_le _, by show (i 2).val < 0 + 1024; omega⟩

theorem slots_split (b : Memref sig .tc .vmem S8x32x1024 .bf16) (q : PosShare TreeShare) (X : Vec F S8x32x1024 .bf16) :
    own c b q X ⊢ (bigSep Finset.univ fun s : Fin 8 => own c (slot b s) q (fun j => X ((slotR s).emb j)) : sProp 𝕄) :=
  owns_rects (c : Thread nD τ) b q slotR (fun _ _ => rfl) (disj_of_key _ slotKey slot_key) (cover_of_key _ slotKey slot_key) X
theorem slots_join (b : Memref sig .tc .vmem S8x32x1024 .bf16) (q : PosShare TreeShare) (X : Vec F S8x32x1024 .bf16) :
    (bigSep Finset.univ fun s : Fin 8 => own c (slot b s) q (fun j => X ((slotR s).emb j))) ⊢ (own c b q X : sProp 𝕄) :=
  owns_of_rects (c : Thread nD τ) b q slotR (fun _ _ => rfl) (disj_of_key _ slotKey slot_key) (cover_of_key _ slotKey slot_key) X
theorem slots_any (b : Memref sig .tc .vmem S8x32x1024 .bf16) :
    (bigSep Finset.univ fun s : Fin 8 => slotAny c b s) ⊢ (iprop(∃ X, own c b fullShare X) : sProp 𝕄) :=
  own_join_any c b slotR (fun _ _ => rfl) (disj_of_key _ slotKey slot_key) (cover_of_key _ slotKey slot_key)

/-- The slots as this device's own and its peers', in the order of the sends or of the peers. -/
theorem over_sends (Φ : Fin 8 → sProp (MT nD τ sig Unit (Elt F) ℕ UU ℕ)) : bigSep Finset.univ Φ = iprop(Φ c ∗ bigSepL sendOrder fun r => Φ (peer c r)) := by
  rw [bigSep_univ_eq_bigSepL (c :: sendOrder.map (peer c)) (sends_all c) (sends_nodup c), bigSepL_cons', bigSepL_map]
theorem over_peers (Φ : Fin 8 → sProp (MT nD τ sig Unit (Elt F) ℕ UU ℕ)) : bigSep Finset.univ Φ = iprop(Φ c ∗ bigSepL peers fun r => Φ (peer c r)) := by
  rw [bigSep_univ_eq_bigSepL (c :: peers.map (peer c)) (peers_all c) (peers_nodup c), bigSepL_cons', bigSepL_map]
omit [FloatOps F] in
theorem all7 : (Finset.univ : Finset (Fin 7)) = sendOrder.toFinset := by decide
omit [FloatOps F] in
theorem nodup7 : sendOrder.Nodup := by decide
theorem over7 (Φ : Fin 7 → sProp (MT nD τ sig Unit (Elt F) ℕ UU ℕ)) : bigSep Finset.univ Φ = bigSepL sendOrder Φ :=
  bigSep_univ_eq_bigSepL sendOrder all7 nodup7 Φ

/-! ## Heads -/

abbrev heads : List (Fin 8) := [0, 1, 2, 3, 4, 5, 6, 7]
omit [FloatOps F] in
theorem all8 : (Finset.univ : Finset (Fin 8)) = heads.toFinset := by decide
omit [FloatOps F] in
theorem nodup8 : heads.Nodup := by decide
theorem over8 (Φ : Fin 8 → sProp (MT nD τ sig Unit (Elt F) ℕ UU ℕ)) : bigSep Finset.univ Φ = bigSepL heads Φ :=
  bigSep_univ_eq_bigSepL heads all8 nodup8 Φ

abbrev headR (h : Fin 8) : Rect S8x4096x128 := Rect.unit (s := S8x4096x128) ![h.val, 0, 0] S1x4096x128.size (headInb h)
abbrev kvR (h : Fin 8) : Rect S1x4096x8x128 := Rect.unit (s := S1x4096x8x128) ![0, 0, h.val, 0] S1x4096x1x128.size (kvInb h)

set_option backward.proofsInPublic true in
def headKey (i : S8x4096x128.Idx) : Fin 8 := ⟨(i 0).val, (i 0).isLt⟩
omit [FloatOps F] in
theorem head_key (s : Fin 8) (i : S8x4096x128.Idx) : i ∈ (headR s).set ↔ headKey i = s := by
  have h0 : (i 0).val < 8 := (i 0).isLt
  have h1 : (i 1).val < 4096 := (i 1).isLt
  have h2 : (i 2).val < 128 := (i 2).isLt
  rw [Rect.mem_set_unit]
  constructor
  · intro h
    obtain ⟨a, b⟩ := h 0
    have a : s.val ≤ (i 0).val := a
    have b : (i 0).val < s.val + 1 := b
    exact Fin.ext (by show (i 0).val = s.val; omega)
  · rintro rfl a
    match a with
    | 0 => exact ⟨Nat.le_refl _, Nat.lt_succ_self _⟩
    | 1 => exact ⟨Nat.zero_le _, by show (i 1).val < 0 + 4096; omega⟩
    | 2 => exact ⟨Nat.zero_le _, by show (i 2).val < 0 + 128; omega⟩

set_option backward.proofsInPublic true in
def kvKey (i : S1x4096x8x128.Idx) : Fin 8 := ⟨(i 2).val, (i 2).isLt⟩
omit [FloatOps F] in
theorem kv_key (s : Fin 8) (i : S1x4096x8x128.Idx) : i ∈ (kvR s).set ↔ kvKey i = s := by
  have h0 : (i 0).val < 1 := (i 0).isLt
  have h1 : (i 1).val < 4096 := (i 1).isLt
  have h3 : (i 3).val < 128 := (i 3).isLt
  rw [Rect.mem_set_unit]
  constructor
  · intro h
    obtain ⟨a, b⟩ := h 2
    have a : s.val ≤ (i 2).val := a
    have b : (i 2).val < s.val + 1 := b
    exact Fin.ext (by show (i 2).val = s.val; omega)
  · rintro rfl a
    match a with
    | 0 => exact ⟨Nat.zero_le _, by show (i 0).val < 0 + 1; omega⟩
    | 1 => exact ⟨Nat.zero_le _, by show (i 1).val < 0 + 4096; omega⟩
    | 2 => exact ⟨Nat.le_refl _, Nat.lt_succ_self _⟩
    | 3 => exact ⟨Nat.zero_le _, by show (i 3).val < 0 + 128; omega⟩

/-- A head of a staging buffer at some values. -/
abbrev headAny (b : Memref sig .tc .vmem S8x4096x128 .f32) (h : Fin 8) : sProp 𝕄 := iprop(∃ Y : Vec F S4096x128 .f32, own c (kvDst b h) fullShare Y)

theorem heads_split (b : Memref sig .tc .vmem S8x4096x128 .f32) (X : Vec F S8x4096x128 .f32) :
    own c b fullShare X ⊢ (bigSepL heads fun h => headAny c b h : sProp 𝕄) := by
  rw [← over8]
  refine (owns_rects (c : Thread nD τ) b fullShare headR (fun _ _ => rfl) (disj_of_key _ headKey head_key) (cover_of_key _ headKey head_key) X).trans (bigSep_mono fun h _ => ?_)
  show owns (c : Thread nD τ) (b.slice (headR h) (fun _ => rfl)) fullShare (fun j => X ((headR h).emb j)) ⊢ headAny c b h
  iintro H
  iexists _
  iapply (own_squeeze c (b.slice (headR h) (fun _ => rfl)) squeezes_S1x4096x128_S4096x128 fullShare _)
  iexact H

theorem heads_join (b : Memref sig .tc .vmem S8x4096x128 .f32) :
    (bigSepL heads fun h => headAny c b h) ⊢ (iprop(∃ X, own c b fullShare X) : sProp 𝕄) := by
  rw [← over8]
  refine BIBase.Entails.trans (bigSep_mono fun h _ => ?_) (own_join_any c b headR (fun _ _ => rfl) (disj_of_key _ headKey head_key) (cover_of_key _ headKey head_key))
  show headAny c b h ⊢ iprop(∃ Y, own c (b.slice (headR h) (fun _ => rfl)) fullShare Y)
  iintro ⟨%Y, H⟩
  iexists _
  iapply (own_unsqueeze c (b.slice (headR h) (fun _ => rfl)) squeezes_S1x4096x128_S4096x128 fullShare Y)
  iexact H

/-- The heads of an array of keys or values, and the array back from them. -/
theorem kv_split (b : Memref sig .tc .hbm S1x4096x8x128 .f32) (f : b.view.ty.Contents (Elt F)) :
    own c b fullShare (b.view.read (Elt F) f) ⊢ (iprop((bigSepL heads fun h => own c (kvSrc b h) fullShare ((kvSrc b h).view.read (Elt F) f))
      ∗ ((bigSepL heads fun h => own c (kvSrc b h) fullShare ((kvSrc b h).view.read (Elt F) f)) -∗ own c b fullShare (b.view.read (Elt F) f))) : sProp 𝕄) := by
  rw [← over8]
  iintro H
  ihave H := (owns_rects (c : Thread nD τ) b fullShare kvR (fun _ _ => rfl) (disj_of_key _ kvKey kv_key) (cover_of_key _ kvKey kv_key) _) $$ H
  isplitl [H]
  · iapply (show bigSep Finset.univ (fun h => owns (c : Thread nD τ) (b.slice (kvR h) (fun _ => rfl)) fullShare (fun j => b.view.read (Elt F) f ((kvR h).emb j)))
        ⊢ bigSep Finset.univ (fun h => own c (kvSrc b h) fullShare ((kvSrc b h).view.read (Elt F) f)) from
      bigSep_mono fun h _ => own_squeeze c (b.slice (kvR h) (fun _ => rfl)) squeezes_S1x4096x1x128_S4096x128 fullShare _)
    iexact H
  · iintro H
    iapply (owns_of_rects (c : Thread nD τ) b fullShare kvR (fun _ _ => rfl) (disj_of_key _ kvKey kv_key) (cover_of_key _ kvKey kv_key) _)
    iapply (show bigSep Finset.univ (fun h => own c (kvSrc b h) fullShare ((kvSrc b h).view.read (Elt F) f))
        ⊢ bigSep Finset.univ (fun h => owns (c : Thread nD τ) (b.slice (kvR h) (fun _ => rfl)) fullShare (fun j => b.view.read (Elt F) f ((kvR h).emb j))) from
      bigSep_mono fun h _ => (own_unsqueeze c (b.slice (kvR h) (fun _ => rfl)) squeezes_S1x4096x1x128_S4096x128 fullShare _).trans (Entails.of_eq (by
        congr 1
        funext j
        show b.view.read (Elt F) f ((kvR h).emb ((Shape.reshapeEquiv _) ((Shape.reshapeEquiv _).symm j))) = _
        rw [Equiv.apply_symm_apply])))
    iexact H

/-- A block of an array, and the array back from it. -/
theorem block_split {sp : Space} {sh : Shape} {e : EltTy} (b : Memref sig .tc sp sh e) (r : Rect sh) (hr : ∀ a, r.stride a = 1) (X : sh.Idx → Elt F e) :
    own c b fullShare X ⊢ (iprop(own c (b.slice r hr) fullShare (fun j => X (r.emb j)) ∗ (own c (b.slice r hr) fullShare (fun j => X (r.emb j)) -∗ own c b fullShare X)) : sProp 𝕄) := by
  iintro H
  ihave H := (owns_slice_split (c : Thread nD τ) b fullShare r hr X) $$ H
  icases H with ⟨H1, %f, %hf, H2⟩
  isplitl [H1]; · iexact H1
  iintro H1
  have e : r.overlay (b.view.read (Elt F) f) (fun j => X (r.emb j)) = X := by
    rw [hf]; funext j
    by_cases hj : j ∈ r.set
    · obtain ⟨i, rfl⟩ := r.exists_idx_of_mem hj
      exact Rect.overlay_emb r X _ i
    · exact Rect.overlay_of_not_mem r X _ hj
  iapply (show owns (c : Thread nD τ) b fullShare (r.overlay (b.view.read (Elt F) f) (fun j => X (r.emb j))) ⊢ own c b fullShare X from Entails.of_eq (by rw [e]))
  iapply (owns_slice_join (c : Thread nD τ) b fullShare r hr _ f)
  isplitl [H1]; · iexact H1
  iexact H2

end Bufs

end Cert.KernelIdeal.Ulysses
-- ==== Proof.FragA.lean ====
/- The fragments before the exchanges: copies, signals, queries, attention, output product. -/
module

public import proofs.«01_k».proof.Proof.Bufs

@[expose] public section

set_option maxRecDepth 65536

noncomputable section

namespace Cert.KernelIdeal.Ulysses

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Frags

variable (K : Dev nD × CK → ℕ) (c : Dev nD)

/-! ## Loads and stores of a whole buffer; waits for copies within the device -/

omit [FloatOps F] in
theorem emb_full {sh : Shape} (off : Fin sh.rank → Nat) (inb : ∀ a, off a + sh.size a ≤ sh.size a) (j : sh.Idx) : (Rect.unit (s := sh) off sh.size inb).emb j = j := by
  funext a
  apply Fin.ext
  have := inb a
  show off a + 1 * (j a).val = (j a).val
  omega

theorem own_load_full {α : Type} {cs : CoreSpace} {sh : Shape} {e : EltTy} (b : Memref sig .tc cs sh e) (off : Fin sh.rank → Nat) (inb : ∀ a, off a + sh.size a ≤ sh.size a)
    {hl : b.view.LoadsAt (Rect.unit (s := sh) off sh.size inb).toLoadRect} {k : (sh.Idx → Elt F e) → Code F α} (q : PosShare TreeShare) (X : sh.Idx → Elt F e) (Q : α → sProp 𝕄) :
    own c b q X ⊢ (iprop((own c b q X -∗ wpc c (k X) Q) -∗ wpc c (.op (.load b (Rect.unit (s := sh) off sh.size inb).toLoadRect hl) k) Q) : sProp 𝕄) := by
  have h := own_load (F := F) (Q := Q) c b (Rect.unit (s := sh) off sh.size inb) (hl := hl) (k := k) q X
  have e : (fun j : (Rect.unit (s := sh) off sh.size inb).shape.Idx => X ((Rect.unit (s := sh) off sh.size inb).emb j)) = X := funext fun j => congrArg X (emb_full off inb j)
  rw [e] at h
  exact h

theorem own_store_full {α : Type} {cs : CoreSpace} {sh : Shape} {e : EltTy} (b : Memref sig .tc cs sh e) (off : Fin sh.rank → Nat) (inb : ∀ a, off a + sh.size a ≤ sh.size a) {w : sh.Idx → Elt F e}
    {hx : (b.access (Rect.unit (s := sh) off sh.size inb)).Stores Finset.univ} {hm : Finset.univ = (Finset.univ : Finset (Rect.unit (s := sh) off sh.size inb).shape.Idx) ∨ ∀ a, (Rect.unit (s := sh) off sh.size inb).stride a = 1}
    {k : PUnit → Code F α} (X : sh.Idx → Elt F e) (Q : α → sProp 𝕄) :
    own c b fullShare X ⊢ (iprop((own c b fullShare w -∗ wpc c (k ⟨⟩) Q) -∗ wpc c (.op (.store b (Rect.unit (s := sh) off sh.size inb) w Finset.univ hx hm) k) Q) : sProp 𝕄) := by
  have h := own_store (F := F) (Q := Q) c b (Rect.unit (s := sh) off sh.size inb) (w := w) (hx := hx) (hm := hm) (k := k) X
  have e : (Rect.unit (s := sh) off sh.size inb).overlay X w = w := funext fun j => by
    have := Rect.overlay_emb (Rect.unit (s := sh) off sh.size inb) X w j
    rw [emb_full] at this
    exact this
  rw [e] at h
  exact h

theorem low_wait {α : Type} {sp sp' : Space} {sh sh' : Shape} {e e' : EltTy} (q : DmaSem sig) (hq : q.val < 20) (b x0 x1 x2 : List (Fin 7)) (src : Memref sig .tc sp' sh' e') (dst : Memref sig .tc sp sh e)
    {hsrc : src.view.WordExact} {hdst : dst.view.WordExact} {k : PUnit → Code F α} {n : ℕ} (hN : dst.view.dmaCredit = n) (D : sProp 𝕄) (Q : α → sProp 𝕄) :
    iprop(know m K ∗ owesAny c (owed4 c b x0 x1 x2) ∗ Flight countersEmb (c : Thread nD τ) (.dma q) () n D
        ∗ (iprop(owesAny c (owed4 c b x0 x1 x2) ∗ D ∗ semVal ((c : Thread nD τ), .dma q) 0) -∗ wpc c (k ⟨⟩) Q))
      ⊢ wpc c (.op (.waitDma2 q src dst hsrc hdst) k) Q := by
  iintro ⟨#Hk, ⟨%W, HO⟩, HF, HQ⟩
  iapply (own_copy_wait c src dst hN D (owed4 c b x0 x1 x2) W) $$ [HF HO]
  · isplitl [HF]; · iexact HF
    isplitl [HO]; · iexact HO
    iapply (mayWait_low c q hq b x0 x1 x2); iapply (know_lev m K); iexact Hk
  iintro ⟨HD, Hv, HO⟩
  iapply HQ
  isplitl [HO]; · iexists _; iexact HO
  isplitl [HD]; · iexact HD
  iexact Hv

/-! ## The copies in flight -/

abbrev NW : ℕ := wqB.view.dmaCredit
abbrev NH : ℕ := (kvDst kB 0).view.dmaCredit

abbrev FQ : sProp 𝕄 := Flight countersEmb (c : Thread nD τ) (.dma (sem2 0)) () NW iprop(own c wqB fullShare (wqv m c) ∗ own c (wqSrc c) fullShare (wqv m c))
abbrev FO : sProp 𝕄 := Flight countersEmb (c : Thread nD τ) (.dma (sem2 1)) () NW iprop(own c woB fullShare (wov m c) ∗ own c (woSrc c) fullShare (wov m c))
abbrev FK (h : Fin 8) : sProp 𝕄 := Flight countersEmb (c : Thread nD τ) (.dma (sem8 cc0_scratch13 h)) () NH iprop(own c (kvDst kB h) fullShare (kv2 m c h) ∗ own c (kvSrc kA h) fullShare (kv2 m c h))
abbrev FV (h : Fin 8) : sProp 𝕄 := Flight countersEmb (c : Thread nD τ) (.dma (sem8 cc0_scratch14 h)) () NH iprop(own c (kvDst vB h) fullShare (vv2 m c h) ∗ own c (kvSrc vA h) fullShare (vv2 m c h))

/-- What a head's copies start from and end with. -/
def headRes (h : Fin 8) : sProp 𝕄 :=
  iprop((headAny c kB h ∗ own c (kvSrc kA h) fullShare (kv2 m c h) ∗ semVal ((c : Thread nD τ), .dma (sem8 cc0_scratch13 h)) 0)
    ∗ headAny c vB h ∗ own c (kvSrc vA h) fullShare (vv2 m c h) ∗ semVal ((c : Thread nD τ), .dma (sem8 cc0_scratch14 h)) 0)

theorem loadW_spec (Q : PUnit → sProp 𝕄) :
    iprop((∃ X, own c wqB fullShare X) ∗ own c (wqSrc c) fullShare (wqv m c) ∗ semVal ((c : Thread nD τ), .dma (sem2 0)) 0
        ∗ (∃ X, own c woB fullShare X) ∗ own c (woSrc c) fullShare (wov m c) ∗ semVal ((c : Thread nD τ), .dma (sem2 1)) 0
        ∗ (iprop(FQ m c ∗ FO m c) -∗ Q ⟨⟩)) ⊢ wpc c (loadW c) Q := by
  unfold loadW
  iintro ⟨⟨%X, Hd⟩, Hs, Hv, ⟨%X', Hd'⟩, Hs', Hv', HQ⟩
  iapply (own_copy c (wqSrc c) wqB fullShare (wqv m c) X NW rfl (View.dmaCredit_pos _ (by decide))) $$ [Hd Hs Hv]
  · isplitl [Hs]; · iexact Hs
    isplitl [Hd]; · iexact Hd
    iexact Hv
  iintro HF
  iapply (own_copy c (woSrc c) woB fullShare (wov m c) X' NW rfl (View.dmaCredit_pos _ (by decide))) $$ [Hd' Hs' Hv']
  · isplitl [Hs']; · iexact Hs'
    isplitl [Hd']; · iexact Hd'
    iexact Hv'
  iintro HF'
  iapply (wpc_ret c)
  iapply HQ
  isplitl [HF]; · iexact HF
  iexact HF'

theorem loadKV_spec (h : Fin 8) (Q : PUnit → sProp 𝕄) : iprop(headRes m c h ∗ (iprop(FK m c h ∗ FV m c h) -∗ Q ⟨⟩)) ⊢ wpc c (loadKV h) Q := by
  unfold loadKV headRes
  iintro ⟨⟨⟨⟨%X, Hd⟩, Hs, Hv⟩, ⟨%X', Hd'⟩, Hs', Hv'⟩, HQ⟩
  iapply (own_copy c (kvSrc kA h) (kvDst kB h) fullShare (kv2 m c h) X NH rfl (View.dmaCredit_pos _ (by decide))) $$ [Hd Hs Hv]
  · isplitl [Hs]; · iexact Hs
    isplitl [Hd]; · iexact Hd
    iexact Hv
  iintro HF
  iapply (own_copy c (kvSrc vA h) (kvDst vB h) fullShare (vv2 m c h) X' NH rfl (View.dmaCredit_pos _ (by decide))) $$ [Hd' Hs' Hv']
  · isplitl [Hs']; · iexact Hs'
    isplitl [Hd']; · iexact Hd'
    iexact Hv'
  iintro HF'
  iapply (wpc_ret c)
  iapply HQ
  isplitl [HF]; · iexact HF
  iexact HF'

theorem loads_spec (Q : PUnit → sProp 𝕄) :
    iprop(bigSepL heads (headRes m c) ∗ (bigSepL heads (fun h => iprop(FK m c h ∗ FV m c h)) -∗ Q ⟨⟩)) ⊢ wpc c (forL heads loadKV) Q := by
  iintro ⟨H, HQ⟩
  iapply (wp_forL c loadKV (headRes m c) (fun h => iprop(FK m c h ∗ FV m c h)) (fun _ => iprop(emp)) heads (by
    intro h l' _ Q
    iintro ⟨H, -, HQ⟩
    iapply (loadKV_spec m c h)
    isplitl [H]; · iexact H
    iintro H
    iapply HQ
    isplitl [H]; · iexact H
    iempintro) Q)
  isplitl [H]; · iexact H
  isplitr; · iempintro
  iintro ⟨H, -⟩
  iapply HQ; iexact H

omit [FloatOps F] in
theorem owed4_sig (r : Fin 7) (b x0 x1 x2 : List (Fin 7)) : owed4 c (r :: b) x0 x1 x2 = owed4 c b x0 x1 x2 + owB c r := (add_assoc _ _ _).symm

theorem sigs_spec (x0 x1 x2 : List (Fin 7)) (Q : PUnit → sProp 𝕄) :
    iprop(know m K ∗ bigSepL peers (fun r => iprop(dutyTok ER (barCell (peer c r)) 0 c ∗ barPay (peer c r) c)) ∗ owesAny c (owed4 c peers x0 x1 x2) ∗ (owesAny c (owed4 c [] x0 x1 x2) -∗ Q ⟨⟩))
      ⊢ wpc c (forL peers (sig1 c)) Q := by
  iintro ⟨#Hk, H, HO, HQ⟩
  iapply (wp_forL c (sig1 c) (fun r => iprop(dutyTok ER (barCell (peer c r)) 0 c ∗ barPay (peer c r) c)) (fun _ => iprop(emp)) (fun l => iprop(know m K ∗ owesAny c (owed4 c l x0 x1 x2))) peers (by
    intro r l' _ Q
    iintro ⟨⟨Ht, Hp⟩, ⟨#Hk, HO⟩, HQ⟩
    iapply (step_sig m K c r (owed4 c l' x0 x1 x2))
    isplitr; · iexact Hk
    isplitl [HO]; · iapply (Entails.of_eq (congrArg (owesAny c) (owed4_sig c r l' x0 x1 x2))); iexact HO
    isplitl [Ht]; · iexact Ht
    isplitl [Hp]; · iexact Hp
    iintro HO
    iapply HQ
    isplitr; · iempintro
    isplitr; · iexact Hk
    iexact HO) Q)
  isplitl [H]; · iexact H
  isplitl [HO]
  · isplitr; · iexact Hk
    iexact HO
  iintro ⟨-, -, HO⟩
  iapply HQ; iexact HO

theorem queries_spec (x : Memref sig .tc .vmem S1x256x1024 .f32) (b x0 x1 x2 : List (Fin 7)) (Q : PUnit → sProp 𝕄) :
    iprop(know m K ∗ owesAny c (owed4 c b x0 x1 x2) ∗ FQ m c ∗ own c x fullShare (xv m c) ∗ (∃ X, own c qB fullShare X)
        ∗ (iprop(owesAny c (owed4 c b x0 x1 x2) ∗ own c wqB fullShare (wqv m c) ∗ own c (wqSrc c) fullShare (wqv m c) ∗ semVal ((c : Thread nD τ), .dma (sem2 0)) 0
            ∗ own c x fullShare (xv m c) ∗ own c qB fullShare (Qv m c)) -∗ Q ⟨⟩))
      ⊢ wpc c (queries c x) Q := by
  unfold queries
  iintro ⟨#Hk, HO, HF, Hx, ⟨%X, Hq⟩, HQ⟩
  iapply (low_wait m K c (sem2 0) (by decide) b x0 x1 x2 (wqSrc c) wqB rfl _)
  isplitr; · iexact Hk
  isplitl [HO]; · iexact HO
  isplitl [HF]; · iexact HF
  iintro ⟨HO, ⟨Hw, Hs⟩, Hv⟩
  iapply (own_load_full c x _ _ fullShare (xv m c)) $$ Hx
  iintro Hx
  iapply (own_load_full c wqB _ _ fullShare (wqv m c)) $$ Hw
  iintro Hw
  iapply (own_load_full c qB _ _ fullShare X) $$ Hq
  iintro Hq
  iapply (own_store_full c qB _ _ X) $$ Hq
  iintro Hq
  iapply (wpc_ret c)
  iapply HQ
  isplitl [HO]; · iexact HO
  isplitl [Hw]; · iexact Hw
  isplitl [Hs]; · iexact Hs
  isplitl [Hv]; · iexact Hv
  isplitl [Hx]; · iexact Hx
  iexact Hq

/-! ## Attention -/

omit [FloatOps F] in
theorem blk_mem (q : Fin 4) (h : Fin 8) (i : S256x1024.Idx) : i ∈ (blkR q h).set ↔ (i 0).val / 64 = q.val ∧ (i 1).val / 128 = h.val := by
  rw [Rect.mem_set_unit]
  constructor
  · intro H
    have a : 64 * q.val ≤ (i 0).val ∧ (i 0).val < 64 * q.val + 64 := H 0
    have b : 128 * h.val ≤ (i 1).val ∧ (i 1).val < 128 * h.val + 128 := H 1
    omega
  · rintro ⟨a, b⟩ x
    match x with
    | 0 => exact ⟨by show 64 * q.val ≤ (i 0).val; omega, by show (i 0).val < 64 * q.val + 64; omega⟩
    | 1 => exact ⟨by show 128 * h.val ≤ (i 1).val; omega, by show (i 1).val < 128 * h.val + 128; omega⟩

/-- The blocks of `S` hold their attention. -/
def ctxOk (S : Fin 8 → Fin 4 → Prop) (X : Vec F S256x1024 .bf16) : Prop := ∀ h q, S h q → ∀ j, X ((blkR q h).emb j) = ctxBlk m c h q j

theorem ctxOk_store {S : Fin 8 → Fin 4 → Prop} {X : Vec F S256x1024 .bf16} (hX : ctxOk m c S X) (h : Fin 8) (q : Fin 4) (S' : Fin 8 → Fin 4 → Prop)
    (hS : ∀ h' q', S' h' q' → S h' q' ∨ (h' = h ∧ q' = q)) : ctxOk m c S' ((blkR q h).overlay X (ctxBlk m c h q)) := by
  intro h' q' hs j
  by_cases e : h' = h ∧ q' = q
  · obtain ⟨rfl, rfl⟩ := e
    exact Rect.overlay_emb _ _ _ j
  · rw [Rect.overlay_of_not_mem]
    · exact hX h' q' ((hS h' q' hs).resolve_right e) j
    · intro hm
      have h1 := (blk_mem q h _).mp hm
      have h2 := (blk_mem q' h' ((blkR q' h').emb j)).mp ((blkR q' h').idx_mem j)
      exact e ⟨Fin.ext (h2.2.symm.trans h1.2), Fin.ext (h2.1.symm.trans h1.1)⟩

theorem ctxOk_mono {S S' : Fin 8 → Fin 4 → Prop} {X : Vec F S256x1024 .bf16} (hX : ctxOk m c S X) (h : ∀ h q, S' h q → S h q) : ctxOk m c S' X :=
  fun h' q' hs => hX h' q' (h _ _ hs)

set_option backward.proofsInPublic true in
/-- An index's place in its block. -/
def blkIdx (i : S256x1024.Idx) : S64x128.Idx := fun a => ⟨(i a).val % S64x128.size a, Nat.mod_lt _ (by revert a; decide)⟩

/-- Where a block is done, the values are the attention. -/
theorem ctxOk_at {S : Fin 8 → Fin 4 → Prop} {X : Vec F S256x1024 .bf16} (hX : ctxOk m c S X) (i : S256x1024.Idx)
    (hS : ∀ h q, h.val = (i 1).val / 128 → S h q) : X i = ctxv m c i := by
  have h0 : (i 0).val < 256 := (i 0).isLt
  have h1 : (i 1).val < 1024 := (i 1).isLt
  have key : (blkR ⟨(i 0).val / 64 % 4, Nat.mod_lt _ (by decide)⟩ ⟨(i 1).val / 128 % 8, Nat.mod_lt _ (by decide)⟩).emb
      (blkIdx i) = i := by
    funext a
    apply Fin.ext
    match a with
    | 0 => show 64 * ((i 0).val / 64 % 4) + 1 * ((i 0).val % 64) = (i 0).val; omega
    | 1 => show 128 * ((i 1).val / 128 % 8) + 1 * ((i 1).val % 128) = (i 1).val; omega
  have := hX _ _ (hS ⟨(i 1).val / 128 % 8, Nat.mod_lt _ (by decide)⟩ ⟨(i 0).val / 64 % 4, Nat.mod_lt _ (by decide)⟩ (by show (i 1).val / 128 % 8 = _; omega))
    (blkIdx i)
  rw [key] at this
  exact this

/-- The attention buffer with the blocks of `S` done. -/
abbrev ctxI (S : Fin 8 → Fin 4 → Prop) : sProp 𝕄 := iprop(∃ X, own c cB fullShare X ∗ ⌜ctxOk m c S X⌝)

theorem attBlk_spec (h : Fin 8) (q : Fin 4) (S S' : Fin 8 → Fin 4 → Prop) (hS : ∀ h' q', S' h' q' → S h' q' ∨ (h' = h ∧ q' = q)) (Q : PUnit → sProp 𝕄) :
    iprop(own c qB fullShare (Qv m c) ∗ ctxI m c S ∗ (iprop(own c qB fullShare (Qv m c) ∗ ctxI m c S') -∗ Q ⟨⟩))
      ⊢ wpc c (attBlk h (unsq (kv2 m c h)) (unsq (vv2 m c h)) q) Q := by
  unfold attBlk
  iintro ⟨Hq, ⟨%X, Hc, %hX⟩, HQ⟩
  iapply (own_load c qB (blkR q h) fullShare (Qv m c)) $$ Hq
  iintro Hq
  iapply (own_load c cB (blkR q h) fullShare X) $$ Hc
  iintro Hc
  iapply (own_store c cB (blkR q h) X) $$ Hc
  iintro Hc
  iapply (wpc_ret c)
  iapply HQ
  isplitl [Hq]; · iexact Hq
  iexists _
  isplitl [Hc]; · iexact Hc
  ipureintro
  exact ctxOk_store m c hX h q S' hS

omit [FloatOps F] in
theorem low13 : ∀ h : Fin 8, (sem8 cc0_scratch13 h).val < 20 := by decide
omit [FloatOps F] in
theorem low14 : ∀ h : Fin 8, (sem8 cc0_scratch14 h).val < 20 := by decide

theorem attend_spec (h : Fin 8) (S S' : Fin 8 → Fin 4 → Prop) (hS : ∀ h' q', S' h' q' → S h' q' ∨ h' = h) (b x0 x1 x2 : List (Fin 7)) (Q : PUnit → sProp 𝕄) :
    iprop(know m K ∗ owesAny c (owed4 c b x0 x1 x2) ∗ (FK m c h ∗ FV m c h) ∗ own c qB fullShare (Qv m c) ∗ ctxI m c S
        ∗ (iprop(owesAny c (owed4 c b x0 x1 x2) ∗ headRes m c h ∗ own c qB fullShare (Qv m c) ∗ ctxI m c S') -∗ Q ⟨⟩))
      ⊢ wpc c (attend h) Q := by
  unfold attend headRes
  iintro ⟨#Hk, HO, ⟨HF, HF'⟩, Hq, Hc, HQ⟩
  iapply (low_wait m K c (sem8 cc0_scratch13 h) (low13 h) b x0 x1 x2 (kvSrc kA h) (kvDst kB h) rfl _)
  isplitr; · iexact Hk
  isplitl [HO]; · iexact HO
  isplitl [HF]; · iexact HF
  iintro ⟨HO, ⟨Hd, Hs⟩, Hv⟩
  iapply (low_wait m K c (sem8 cc0_scratch14 h) (low14 h) b x0 x1 x2 (kvSrc vA h) (kvDst vB h) rfl _)
  isplitr; · iexact Hk
  isplitl [HO]; · iexact HO
  isplitl [HF']; · iexact HF'
  iintro ⟨HO, ⟨Hd', Hs'⟩, Hv'⟩
  ihave Hd := (show own c (kvDst kB h) fullShare (kv2 m c h) ⊢ own c (kB.slice (headR h) (fun _ => rfl)) fullShare (unsq (kv2 m c h)) from own_unsqueeze c (kB.slice (headR h) (fun _ => rfl)) squeezes_S1x4096x128_S4096x128 fullShare _) $$ Hd
  ihave Hd' := (show own c (kvDst vB h) fullShare (vv2 m c h) ⊢ own c (vB.slice (headR h) (fun _ => rfl)) fullShare (unsq (vv2 m c h)) from own_unsqueeze c (vB.slice (headR h) (fun _ => rfl)) squeezes_S1x4096x128_S4096x128 fullShare _) $$ Hd'
  iapply (own_load_slice c kB (headR h) (fun _ => rfl) fullShare (unsq (kv2 m c h))) $$ Hd
  iintro Hd
  iapply (own_load_slice c vB (headR h) (fun _ => rfl) fullShare (unsq (vv2 m c h))) $$ Hd'
  iintro Hd'
  iapply (wp_forL c (attBlk h (unsq (kv2 m c h)) (unsq (vv2 m c h))) (fun _ => iprop(emp)) (fun _ => iprop(emp))
    (fun l => iprop(own c qB fullShare (Qv m c) ∗ ctxI m c (fun h' q' => S h' q' ∨ (h' = h ∧ q' ∉ l)))) [0, 1, 2, 3] (by
      intro q l' _ Q
      iintro ⟨-, ⟨Hq, Hc⟩, HQ⟩
      iapply (attBlk_spec m c h q (fun h' q' => S h' q' ∨ (h' = h ∧ q' ∉ q :: l')) (fun h' q' => S h' q' ∨ (h' = h ∧ q' ∉ l')) (by
        rintro h' q' (hs | ⟨rfl, hq⟩)
        · exact .inl (.inl hs)
        · by_cases e : q' = q
          · exact .inr ⟨rfl, e⟩
          · exact .inl (.inr ⟨rfl, by rw [List.mem_cons, not_or]; exact ⟨e, hq⟩⟩)))
      isplitl [Hq]; · iexact Hq
      isplitl [Hc]; · iexact Hc
      iintro H
      iapply HQ
      isplitr; · iempintro
      iexact H) Q)
  isplitr
  · simp only [bigSepL_cons', bigSepL_nil]
    isplitr; · iempintro
    isplitr; · iempintro
    isplitr; · iempintro
    isplitr; · iempintro
    iempintro
  isplitl [Hq Hc]
  · isplitl [Hq]; · iexact Hq
    icases Hc with ⟨%X, Hc, %hX⟩
    iexists X
    isplitl [Hc]; · iexact Hc
    ipureintro
    exact ctxOk_mono m c hX (by
      rintro h' q' (hs | ⟨-, hq⟩)
      · exact hs
      · exact absurd (show q' ∈ [(0 : Fin 4), 1, 2, 3] by revert q'; decide) hq)
  iintro ⟨-, Hq, Hc⟩
  iapply HQ
  isplitl [HO]; · iexact HO
  isplitl [Hd Hs Hv Hd' Hs' Hv']
  · isplitl [Hd Hs Hv]
    · isplitl [Hd]
      · iexists _
        iapply (own_squeeze c (kB.slice (headR h) (fun _ => rfl)) squeezes_S1x4096x128_S4096x128 fullShare _)
        iexact Hd
      isplitl [Hs]; · iexact Hs
      iexact Hv
    · isplitl [Hd']
      · iexists _
        iapply (own_squeeze c (vB.slice (headR h) (fun _ => rfl)) squeezes_S1x4096x128_S4096x128 fullShare _)
        iexact Hd'
      isplitl [Hs']; · iexact Hs'
      iexact Hv'
  isplitl [Hq]; · iexact Hq
  icases Hc with ⟨%X, Hc, %hX⟩
  iexists X
  isplitl [Hc]; · iexact Hc
  ipureintro
  exact ctxOk_mono m c hX (by
    intro h' q' hs
    rcases hS h' q' hs with hs | rfl
    · exact .inl hs
    · exact .inr ⟨rfl, List.not_mem_nil⟩)

theorem attends_spec (l rest : List (Fin 8)) (b x0 x1 x2 : List (Fin 7)) (Q : PUnit → sProp 𝕄) :
    iprop(know m K ∗ owesAny c (owed4 c b x0 x1 x2) ∗ bigSepL l (fun h => iprop(FK m c h ∗ FV m c h)) ∗ own c qB fullShare (Qv m c) ∗ ctxI m c (fun h _ => h ∉ l ∧ h ∉ rest)
        ∗ (iprop(owesAny c (owed4 c b x0 x1 x2) ∗ bigSepL l (headRes m c) ∗ own c qB fullShare (Qv m c) ∗ ctxI m c (fun h _ => h ∉ rest)) -∗ Q ⟨⟩))
      ⊢ wpc c (forL l attend) Q := by
  iintro ⟨#Hk, HO, HF, Hq, Hc, HQ⟩
  iapply (wp_forL c attend (fun h => iprop(FK m c h ∗ FV m c h)) (headRes m c)
    (fun l => iprop(know m K ∗ owesAny c (owed4 c b x0 x1 x2) ∗ own c qB fullShare (Qv m c) ∗ ctxI m c (fun h _ => h ∉ l ∧ h ∉ rest))) l (by
      intro h l' _ Q
      iintro ⟨HF, ⟨#Hk, HO, Hq, Hc⟩, HQ⟩
      iapply (attend_spec m K c h (fun h' _ => h' ∉ h :: l' ∧ h' ∉ rest) (fun h' _ => h' ∉ l' ∧ h' ∉ rest) (by
        rintro h' q' ⟨h1, h2⟩
        by_cases e : h' = h
        · exact .inr e
        · exact .inl ⟨by rw [List.mem_cons, not_or]; exact ⟨e, h1⟩, h2⟩) b x0 x1 x2)
      isplitr; · iexact Hk
      isplitl [HO]; · iexact HO
      isplitl [HF]; · iexact HF
      isplitl [Hq]; · iexact Hq
      isplitl [Hc]; · iexact Hc
      iintro ⟨HO, HR, Hq, Hc⟩
      iapply HQ
      isplitl [HR]; · iexact HR
      isplitr; · iexact Hk
      isplitl [HO]; · iexact HO
      isplitl [Hq]; · iexact Hq
      iexact Hc) Q)
  isplitl [HF]; · iexact HF
  isplitl [HO Hq Hc]
  · isplitr; · iexact Hk
    isplitl [HO]; · iexact HO
    isplitl [Hq]; · iexact Hq
    iexact Hc
  iintro ⟨HR, -, HO, Hq, Hc⟩
  iapply HQ
  isplitl [HO]; · iexact HO
  isplitl [HR]; · iexact HR
  isplitl [Hq]; · iexact Hq
  icases Hc with ⟨%X, Hc, %hX⟩
  iexists X
  isplitl [Hc]; · iexact Hc
  ipureintro
  exact ctxOk_mono m c hX (fun h q hr => ⟨List.not_mem_nil, hr⟩)

/-! ## The output product -/

theorem product_spec (b : Fin 2) (p : Memref sig .tc .vmem S8x32x1024 .bf16) (hp : p.IsWhole) (S : Fin 8 → Fin 4 → Prop) (hS : ∀ h q, h.val / 4 = b.val → S h q) (Q : PUnit → sProp 𝕄) :
    iprop(ctxI m c S ∗ own c woB fullShare (wov m c) ∗ (∃ X, own c p fullShare X)
        ∗ (iprop(ctxI m c S ∗ own c woB fullShare (wov m c) ∗ own c p fullShare (part m c b)) -∗ Q ⟨⟩))
      ⊢ wpc c (product b p hp) Q := by
  unfold product
  iintro ⟨⟨%X, Hc, %hX⟩, Hw, ⟨%Y, Hp⟩, HQ⟩
  iapply (own_load c cB (colR b) fullShare X) $$ Hc
  iintro Hc
  iapply (own_load c woB (rowR b) fullShare (wov m c)) $$ Hw
  iintro Hw
  iapply (own_load_full c p _ _ fullShare Y) $$ Hp
  iintro Hp
  iapply (own_store_full c p _ _ Y) $$ Hp
  iintro Hp
  iapply (wpc_ret c)
  iapply HQ
  isplitl [Hc]
  · iexists X
    isplitl [Hc]; · iexact Hc
    ipureintro; exact hX
  isplitl [Hw]; · iexact Hw
  have e : (fun j => X ((colR b).emb j)) = fun j => ctxv m c ((colR b).emb j) := funext fun j => ctxOk_at m c hX _ (by
    intro h q hh
    apply hS
    have hj : (j 1).val < 512 := (j 1).isLt
    have e1 : (((colR b).emb j) 1).val = 512 * b.val + 1 * (j 1).val := rfl
    rw [e1] at hh
    omega)
  iapply (show own c p fullShare (k0_pay40 (fun j => X ((colR b).emb j)) fun j => wov m c ((rowR b).emb j)) ⊢ own c p fullShare (part m c b) from
    Entails.of_eq (congrArg (fun z => own c p fullShare (k0_pay40 z fun j => wov m c ((rowR b).emb j))) e))
  iexact Hp

end Frags

end Cert.KernelIdeal.Ulysses
-- ==== Proof.FragB.lean ====
/- The fragments of the exchanges: sends, sums, the gather, the output, the drains. -/
module

public import proofs.«01_k».proof.Proof.FragA

@[expose] public section

set_option maxRecDepth 65536

noncomputable section

namespace Cert.KernelIdeal.Ulysses

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Frags

variable (K : Dev nD × CK → ℕ) (c : Dev nD)

/-! ## Pairs along a list -/

theorem sepL_split {α : Type} (Φ Ψ : α → sProp (MT nD τ sig Unit (Elt F) ℕ UU ℕ)) : ∀ l : List α, bigSepL l (fun a => iprop(Φ a ∗ Ψ a)) ⊢ iprop(bigSepL l Φ ∗ bigSepL l Ψ)
  | [] => by rw [bigSepL_nil, bigSepL_nil, bigSepL_nil]; exact Laws.sep_emp.2
  | a :: l => by
    simp only [bigSepL_cons']
    iintro ⟨⟨H1, H2⟩, H⟩
    ihave H := (sepL_split Φ Ψ l) $$ H
    icases H with ⟨H3, H4⟩
    isplitl [H1 H3]
    · isplitl [H1]; · iexact H1
      iexact H3
    · isplitl [H2]; · iexact H2
      iexact H4

theorem sepL_join {α : Type} (Φ Ψ : α → sProp (MT nD τ sig Unit (Elt F) ℕ UU ℕ)) : ∀ l : List α, iprop(bigSepL l Φ ∗ bigSepL l Ψ) ⊢ bigSepL l (fun a => iprop(Φ a ∗ Ψ a))
  | [] => by rw [bigSepL_nil, bigSepL_nil, bigSepL_nil]; exact Laws.sep_emp.1
  | a :: l => by
    simp only [bigSepL_cons']
    iintro ⟨⟨H1, H3⟩, H2, H4⟩
    isplitl [H1 H2]
    · isplitl [H1]; · iexact H1
      iexact H2
    · iapply (sepL_join Φ Ψ l)
      isplitl [H3]; · iexact H3
      iexact H4

/-! ## What is owed during the exchanges -/

omit [FloatOps F] in
theorem owed_0 (l x1 x2 : List (Fin 7)) : owed4 c [] l x1 x2 = (tl (owX c 2) x2 + tl (owX c 1) x1) + tl (owX c 0) l := add_zero _
omit [FloatOps F] in
theorem owed_1 (l x2 : List (Fin 7)) : owed4 c [] [] l x2 = tl (owX c 2) x2 + tl (owX c 1) l := (add_zero _).trans (add_zero _)
omit [FloatOps F] in
theorem owed_2 (l : List (Fin 7)) : owed4 c [] [] [] l = 0 + tl (owX c 2) l := ((add_zero _).trans (add_zero _)).trans ((add_zero _).trans (zero_add _).symm)
omit [FloatOps F] in
theorem tl_cons (O : CellTallies nD τ sig Unit) (f : Fin 7 → CellTallies nD τ sig Unit) (r : Fin 7) (l : List (Fin 7)) : O + tl f (r :: l) = (O + tl f l) + f r := (add_assoc _ _ _).symm

/-! ## Sending the partial products -/

/-- What a send takes: the block, the peer's landing slot, the two duties. -/
def sendRes (w : Fin 3) (p : Memref sig .tc .vmem S8x32x1024 .bf16) (b : Fin 2) (r : Fin 7) : sProp 𝕄 :=
  iprop(own c (slot p (peer c r)) fullShare (partAt m c b (peer c r)) ∗ slotAny (peer c r) (landB w) c ∗ dutyTok ER (sndCell c w r) 0 c ∗ dutyTok ER (rcvCell (peer c r) w c) 0 c)

theorem sendPs_spec (w : Fin 3) (p : Memref sig .tc .vmem S8x32x1024 .bf16) (hp : p.IsWhole) (d : Memref sig .tc .vmem S8x32x1024 .bf16) (hd : d.IsWhole)
    (ss : DmaSems sig S7) (rs : DmaSems sig S8) (dev : Fin 7 → Dev nD) (b : Fin 2) (hdev : ∀ r, dev r = peer c r) (hld : d = landB w) (hss : ss = sndA w) (hrs : rs = rcvA w)
    (hp1 : ∀ r, own c (slot p (peer c r)) fullShare (partAt m c b (peer c r)) ⊢ sndPay m c w r)
    (hp2 : ∀ r, own (peer c r) (slot (landB w) c) fullShare (partAt m c b (peer c r)) ⊢ rcvPay m (peer c r) w c)
    (O : CellTallies nD τ sig Unit) (l : List (Fin 7)) (Q : PUnit → sProp 𝕄) :
    iprop(know m K ∗ bigSepL l (sendRes m c w p b) ∗ owesAny c (O + tl (owX c w) l)
        ∗ (iprop(bigSepL l (fun r => cred (tallyAt (sndCell c w r) () N)) ∗ owesAny c (O + tl (owX c w) [])) -∗ Q ⟨⟩))
      ⊢ wpc c (forL l (sendP c p hp d hd ss rs dev)) Q := by
  iintro ⟨#Hk, H, HO, HQ⟩
  iapply (wp_forL c (sendP c p hp d hd ss rs dev) (sendRes m c w p b) (fun r => cred (tallyAt (sndCell c w r) () N)) (fun l => iprop(know m K ∗ owesAny c (O + tl (owX c w) l))) l (by
    intro r l' _ Q
    unfold sendRes sendP
    iintro ⟨⟨Hs, Hd, Ht1, Ht2⟩, ⟨#Hk, HO⟩, HQ⟩
    iapply (step_send m K c w r (O + tl (owX c w) l') (peerSlot p c r) (mySlot d c) fullShare (partAt m c b (peer c r)) (dev r) (sem7 ss r) (mySem rs c) (hdev r)
      (by rw [hld, mySlot_eq]) (by rw [hss, sem7_eq]) (by rw [hrs, mySem_eq]) (by rw [peerSlot_eq]; exact hp1 r) (hp2 r))
    isplitr; · iexact Hk
    isplitl [Hs]
    · iapply (Entails.of_eq (show own c (slot p (peer c r)) fullShare (partAt m c b (peer c r)) = own c (peerSlot p c r) fullShare (partAt m c b (peer c r)) by rw [peerSlot_eq]))
      iexact Hs
    isplitl [Hd]; · iexact Hd
    isplitl [HO]; · iapply (Entails.of_eq (congrArg (owesAny c) (tl_cons O (owX c w) r l'))); iexact HO
    isplitl [Ht1]; · iexact Ht1
    isplitl [Ht2]; · iexact Ht2
    iintro ⟨Hc, HO⟩
    iapply (wpc_ret c)
    iapply HQ
    isplitl [Hc]; · iexact Hc
    isplitr; · iexact Hk
    iexact HO) Q)
  isplitl [H]; · iexact H
  isplitl [HO]
  · isplitr; · iexact Hk
    iexact HO
  iintro ⟨H, -, HO⟩
  iapply HQ
  isplitl [H]; · iexact H
  iexact HO

/-! ## Summing -/

theorem ownSum_spec (Q : PUnit → sProp 𝕄) :
    iprop(own c (slot paB c) fullShare (partAt m c 0 c) ∗ own c (slot pbB c) fullShare (partAt m c 1 c) ∗ (∃ X, own c redB fullShare X)
        ∗ (iprop(own c (slot paB c) fullShare (partAt m c 0 c) ∗ own c (slot pbB c) fullShare (partAt m c 1 c) ∗ own c redB fullShare (red0 m c)) -∗ Q ⟨⟩))
      ⊢ wpc c (ownSum c) Q := by
  have e : ∀ b : Memref sig .tc .vmem S8x32x1024 .bf16, slot b c = b.slice (myRect c) (fun _ => rfl) := fun b => (slot_congr b (k0_off6_eq c) _ _).symm
  unfold ownSum
  rw [e paB, e pbB]
  iintro ⟨Ha, Hb, ⟨%X, Hr⟩, HQ⟩
  iapply (own_load_slice c paB (myRect c) (fun _ => rfl) fullShare (partAt m c 0 c)) $$ Ha
  iintro Ha
  iapply (own_load_slice c pbB (myRect c) (fun _ => rfl) fullShare (partAt m c 1 c)) $$ Hb
  iintro Hb
  iapply (own_load_full c redB _ _ fullShare X) $$ Hr
  iintro Hr
  iapply (own_store_full c redB _ _ X) $$ Hr
  iintro Hr
  iapply (wpc_ret c)
  iapply HQ
  isplitl [Ha]; · iexact Ha
  isplitl [Hb]; · iexact Hb
  iexact Hr

theorem collects_spec (w : Fin 3) (hw : w ≠ 2) (b : Fin 2) (d : Memref sig .tc .vmem S8x32x1024 .bf16) (hd : d.IsWhole) (rs : DmaSems sig S8) (hld : d = landB w) (hrs : rs = rcvA w)
    (hN : ∀ r, (peerSlot d c r).view.dmaCredit = N)
    (hp : ∀ r, rcvPay m c w (peer c r) ⊢ own c (slot d (peer c r)) fullShare (partAt m (peer c r) b c)) (x2 : List (Fin 7)) (l : List (Fin 7)) (x : FVec F S32x1024 .f32) (Q : PUnit → sProp 𝕄) :
    iprop(know m K ∗ bigSepL l (fun r => iprop(cred (tallyAt (rcvCell c w (peer c r)) () N) ∗ atPos ER (rcvCell c w (peer c r)) 0 ∅ 0)) ∗ owesAny c (owed4 c [] [] [] x2) ∗ own c redB fullShare x
        ∗ (iprop(bigSepL l (fun r => iprop(slotAny c d (peer c r) ∗ semVal (rcvCell c w (peer c r)) 0)) ∗ owesAny c (owed4 c [] [] [] x2) ∗ own c redB fullShare (l.foldl (addPeer m c b) x)) -∗ Q ⟨⟩))
      ⊢ wpc c (forL l (collect c d hd rs)) Q := by
  iintro ⟨#Hk, H, HO, Hr, HQ⟩
  iapply (wp_forL c (collect c d hd rs) (fun r => iprop(cred (tallyAt (rcvCell c w (peer c r)) () N) ∗ atPos ER (rcvCell c w (peer c r)) 0 ∅ 0))
    (fun r => iprop(slotAny c d (peer c r) ∗ semVal (rcvCell c w (peer c r)) 0))
    (fun l' => iprop(know m K ∗ owesAny c (owed4 c [] [] [] x2) ∗ ∃ y, own c redB fullShare y ∗ ⌜l'.foldl (addPeer m c b) y = l.foldl (addPeer m c b) x⌝)) l (by
    intro r l' _ Q
    unfold collect
    iintro ⟨⟨Hc, Ha⟩, ⟨#Hk, HO, %y, Hr, %hy⟩, HQ⟩
    iapply (step_rcv m K c w (peer c r) (peer_ne c r) (owed4 c [] [] [] x2) (peerSlot d c r) (peerSlot d c r) (peerSem rs c r) (by rw [hrs, peerSem_eq]) (hN r) (mayWait_rcv c w hw (peer c r) x2))
    isplitr; · iexact Hk
    isplitl [HO]; · iexact HO
    isplitl [Hc]; · iexact Hc
    isplitl [Ha]; · iexact Ha
    iintro ⟨HO, Hp, Hv⟩
    ihave Hp := (hp r) $$ Hp
    ihave Hp := (Entails.of_eq (show own c (slot d (peer c r)) fullShare (partAt m (peer c r) b c) = own c (d.slice (peerRect c r) (fun _ => rfl)) fullShare (partAt m (peer c r) b c) by
      rw [slot_congr d (off8_peer c r) _ _])) $$ Hp
    iapply (own_load_full c redB _ _ fullShare y) $$ Hr
    iintro Hr
    iapply (own_load_slice c d (peerRect c r) (fun _ => rfl) fullShare (partAt m (peer c r) b c)) $$ Hp
    iintro Hp
    iapply (own_load_full c redB _ _ fullShare y) $$ Hr
    iintro Hr
    iapply (own_store_full c redB _ _ y) $$ Hr
    iintro Hr
    iapply (wpc_ret c)
    iapply HQ
    isplitl [Hp Hv]
    · isplitl [Hp]
      · iexists (partAt m (peer c r) b c)
        iapply (Entails.of_eq (show own c (d.slice (peerRect c r) (fun _ => rfl)) fullShare (partAt m (peer c r) b c) = own c (slot d (peer c r)) fullShare (partAt m (peer c r) b c) by
          rw [slot_congr d (off8_peer c r) _ _]))
        iexact Hp
      · iexact Hv
    isplitr; · iexact Hk
    isplitl [HO]; · iexact HO
    iexists _
    isplitl [Hr]; · iexact Hr
    ipureintro
    exact hy) Q)
  isplitl [H]; · iexact H
  isplitl [HO Hr]
  · isplitr; · iexact Hk
    isplitl [HO]; · iexact HO
    iexists x
    isplitl [Hr]; · iexact Hr
    ipureintro; rfl
  iintro ⟨H, -, HO, %y, Hr, %hy⟩
  iapply HQ
  isplitl [H]; · iexact H
  isplitl [HO]; · iexact HO
  rw [← show y = l.foldl (addPeer m c b) x from hy]
  iexact Hr

/-! ## Gathering -/

theorem putSum_spec (Q : PUnit → sProp 𝕄) :
    iprop(own c redB fullShare (red2 m c) ∗ slotAny c gB c ∗ (iprop(own c redB fullShare (red2 m c) ∗ own c (slot gB c) fullShare (gv m c)) -∗ Q ⟨⟩)) ⊢ wpc c (putSum c) Q := by
  have e : slot gB c = gB.slice (myRect c) (fun _ => rfl) := (slot_congr gB (k0_off6_eq c) _ _).symm
  unfold putSum slotAny
  rw [e]
  iintro ⟨Hr, ⟨%X, Hg⟩, HQ⟩
  iapply (own_load_full c redB _ _ fullShare (red2 m c)) $$ Hr
  iintro Hr
  iapply (own_load_slice c gB (myRect c) (fun _ => rfl) fullShare X) $$ Hg
  iintro Hg
  iapply (own_store_slice c gB (myRect c) (fun _ => rfl) X) $$ Hg
  iintro Hg
  iapply (wpc_ret c)
  iapply HQ
  isplitl [Hr]; · iexact Hr
  iexact Hg

/-- What a send of the summed rows takes. -/
def sendGRes (r : Fin 7) : sProp 𝕄 :=
  iprop(own c (slot gB c) (gShare r) (gv m c) ∗ slotAny (peer c r) gB c ∗ dutyTok ER (sndCell c 2 r) 0 c ∗ dutyTok ER (rcvCell (peer c r) 2 c) 0 c)

theorem sendGs_spec (O : CellTallies nD τ sig Unit) (l : List (Fin 7)) (Q : PUnit → sProp 𝕄) :
    iprop(know m K ∗ bigSepL l (sendGRes m c) ∗ owesAny c (O + tl (owX c 2) l)
        ∗ (iprop(bigSepL l (fun r => cred (tallyAt (sndCell c 2 r) () N)) ∗ owesAny c (O + tl (owX c 2) [])) -∗ Q ⟨⟩))
      ⊢ wpc c (forL l (sendG c)) Q := by
  iintro ⟨#Hk, H, HO, HQ⟩
  iapply (wp_forL c (sendG c) (sendGRes m c) (fun r => cred (tallyAt (sndCell c 2 r) () N)) (fun l => iprop(know m K ∗ owesAny c (O + tl (owX c 2) l))) l (by
    intro r l' _ Q
    unfold sendGRes sendG
    iintro ⟨⟨Hs, Hd, Ht1, Ht2⟩, ⟨#Hk, HO⟩, HQ⟩
    iapply (step_send m K c 2 r (O + tl (owX c 2) l') (mySlot gB c) (mySlot gB c) (gShare r) (gv m c) (devG c r) (sem7 cc0_scratch19 r) (mySem cc0_scratch20 c) (devG_eq c r)
      (by rw [mySlot_eq]; rfl) (sem7_eq 2 r) (mySem_eq 2 c) (by rw [mySlot_eq]; exact .rfl) .rfl)
    isplitr; · iexact Hk
    isplitl [Hs]
    · iapply (Entails.of_eq (show own c (slot gB c) (gShare r) (gv m c) = own c (mySlot gB c) (gShare r) (gv m c) by rw [mySlot_eq]))
      iexact Hs
    isplitl [Hd]; · iexact Hd
    isplitl [HO]; · iapply (Entails.of_eq (congrArg (owesAny c) (tl_cons O (owX c 2) r l'))); iexact HO
    isplitl [Ht1]; · iexact Ht1
    isplitl [Ht2]; · iexact Ht2
    iintro ⟨Hc, HO⟩
    iapply (wpc_ret c)
    iapply HQ
    isplitl [Hc]; · iexact Hc
    isplitr; · iexact Hk
    iexact HO) Q)
  isplitl [H]; · iexact H
  isplitl [HO]
  · isplitr; · iexact Hk
    iexact HO
  iintro ⟨H, -, HO⟩
  iapply HQ
  isplitl [H]; · iexact H
  iexact HO

theorem recvGs_spec (l : List (Fin 7)) (Q : PUnit → sProp 𝕄) :
    iprop(know m K ∗ bigSepL l (fun r => iprop(cred (tallyAt (rcvCell c 2 (peer c r)) () N) ∗ atPos ER (rcvCell c 2 (peer c r)) 0 ∅ 0)) ∗ owesAny c 0
        ∗ (iprop(bigSepL l (fun r => iprop(own c (slot gB (peer c r)) fullShare (gv m (peer c r)) ∗ semVal (rcvCell c 2 (peer c r)) 0)) ∗ owesAny c 0) -∗ Q ⟨⟩))
      ⊢ wpc c (forL l (recvG c)) Q := by
  iintro ⟨#Hk, H, HO, HQ⟩
  iapply (wp_forL c (recvG c) (fun r => iprop(cred (tallyAt (rcvCell c 2 (peer c r)) () N) ∗ atPos ER (rcvCell c 2 (peer c r)) 0 ∅ 0))
    (fun r => iprop(own c (slot gB (peer c r)) fullShare (gv m (peer c r)) ∗ semVal (rcvCell c 2 (peer c r)) 0)) (fun _ => iprop(know m K ∗ owesAny c 0)) l (by
    intro r l' _ Q
    unfold recvG
    iintro ⟨⟨Hc, Ha⟩, ⟨#Hk, HO⟩, HQ⟩
    iapply (step_rcv m K c 2 (peer c r) (peer_ne c r) 0 (peerSlot gB c r) (peerSlot gB c r) (peerSem cc0_scratch20 c r) (peerSem_eq 2 c r) (by rfl) (by rw [MayWait_zero]; iintro -; iempintro))
    isplitr; · iexact Hk
    isplitl [HO]; · iexact HO
    isplitl [Hc]; · iexact Hc
    isplitl [Ha]; · iexact Ha
    iintro ⟨HO, Hp, Hv⟩
    iapply (wpc_ret c)
    iapply HQ
    isplitl [Hp Hv]
    · isplitl [Hp]; · iapply (show rcvPay m c 2 (peer c r) ⊢ own c (slot gB (peer c r)) fullShare (gv m (peer c r)) from .rfl); iexact Hp
      iexact Hv
    isplitr; · iexact Hk
    iexact HO) Q)
  isplitl [H]; · iexact H
  isplitl [HO]
  · isplitr; · iexact Hk
    iexact HO
  iintro ⟨H, -, HO⟩
  iapply HQ
  isplitl [H]; · iexact H
  iexact HO

theorem gAll_slot (s : Fin 8) : (fun j => gAll m ((slotR s).emb j)) = gv m s := by
  funext j
  have h0 : (j 0).val < 1 := (j 0).isLt
  have h1 : (j 1).val < 32 := (j 1).isLt
  have h2 : (j 2).val < 1024 := (j 2).isLt
  have e0 : (((slotR s).emb j) 0).val = s.val + 1 * (j 0).val := rfl
  have e1 : (((slotR s).emb j) 1).val = 0 + 1 * (j 1).val := rfl
  have e2 : (((slotR s).emb j) 2).val = 0 + 1 * (j 2).val := rfl
  have es : (⟨(((slotR s).emb j) 0).val % 8, Nat.mod_lt _ (by decide)⟩ : Dev nD) = s := Fin.ext (by show (((slotR s).emb j) 0).val % 8 = s.val; omega)
  exact congr (congrArg (gv m) es) (funext fun a => Fin.ext (by
    match a with
    | 0 => show (((slotR s).emb j) 0).val % 1 = (j 0).val; omega
    | 1 => show (((slotR s).emb j) 1).val % 32 = (j 1).val; omega
    | 2 => show (((slotR s).emb j) 2).val % 1024 = (j 2).val; omega))

theorem slots_gAll (q : PosShare TreeShare) :
    bigSep Finset.univ (fun s : Fin 8 => own c (slot gB s) q (fun j => gAll m ((slotR s).emb j)))
      = iprop(own c (slot gB c) q (gv m c) ∗ bigSepL peers fun r => own c (slot gB (peer c r)) q (gv m (peer c r))) := by
  rw [show (fun s : Fin 8 => own c (slot gB s) q (fun j => gAll m ((slotR s).emb j))) = fun s => own c (slot gB s) q (gv m s) from
    funext fun s => congrArg (own c (slot gB s) q) (gAll_slot m s)]
  exact over_peers c (fun s => own c (slot gB s) q (gv m s))

/-- The shares of a peer's slot that the output does not read. -/
abbrev restToks (s : Fin 8) : sProp 𝕄 := bigSep Finset.univ fun i : Fin 7 => own c (slot gB s) (shareTok fullShare 7 i) (gv m s)

theorem output_spec (o : Memref sig .tc .vmem S1x256x1024 .f32) (Q : PUnit → sProp 𝕄) :
    iprop(own c (slot gB c) (shareDrop fullShare 7) (gv m c) ∗ bigSepL peers (fun r => own c (slot gB (peer c r)) fullShare (gv m (peer c r))) ∗ (∃ X, own c o fullShare X)
        ∗ (iprop(own c (slot gB c) (shareDrop fullShare 7) (gv m c) ∗ bigSepL peers (fun r => own c (slot gB (peer c r)) fullShare (gv m (peer c r))) ∗ own c o fullShare (outv m)) -∗ Q ⟨⟩))
      ⊢ wpc c (output o) Q := by
  have es : bigSepL peers (fun r => own c (slot gB (peer c r)) fullShare (gv m (peer c r)))
      ⊢ iprop((bigSepL peers fun r => own c (slot gB (peer c r)) (shareDrop fullShare 7) (gv m (peer c r))) ∗ bigSepL peers fun r => restToks m c (peer c r)) := by
    exact (bigSepL_mono fun r _ => own_toks_split c _ fullShare 7 _).trans (sepL_split (fun r => own c (slot gB (peer c r)) (shareDrop fullShare 7) (gv m (peer c r))) (fun r => restToks m c (peer c r)) peers)
  have ej : iprop((bigSepL peers fun r => own c (slot gB (peer c r)) (shareDrop fullShare 7) (gv m (peer c r))) ∗ bigSepL peers fun r => restToks m c (peer c r))
      ⊢ bigSepL peers (fun r => own c (slot gB (peer c r)) fullShare (gv m (peer c r))) := by
    exact (sepL_join (fun r => own c (slot gB (peer c r)) (shareDrop fullShare 7) (gv m (peer c r))) (fun r => restToks m c (peer c r)) peers).trans (bigSepL_mono fun r _ => own_toks_join c _ fullShare 7 _)
  unfold output
  iintro ⟨Hg, Hp, ⟨%X, Ho⟩, HQ⟩
  ihave Hp := es $$ Hp
  icases Hp with ⟨Hp, Ht⟩
  ihave Hall := (show iprop(own c (slot gB c) (shareDrop fullShare 7) (gv m c) ∗ bigSepL peers fun r => own c (slot gB (peer c r)) (shareDrop fullShare 7) (gv m (peer c r)))
      ⊢ own c gB (shareDrop fullShare 7) (gAll m) from by
    rw [← slots_gAll]; exact slots_join c gB (shareDrop fullShare 7) (gAll m)) $$ [Hg Hp]
  · isplitl [Hg]; · iexact Hg
    iexact Hp
  iapply (own_load_full c gB _ _ (shareDrop fullShare 7) (gAll m)) $$ Hall
  iintro Hall
  iapply (own_load_full c o _ _ fullShare X) $$ Ho
  iintro Ho
  iapply (own_store_full c o _ _ X) $$ Ho
  iintro Ho
  iapply (wpc_ret c)
  ihave Hall := (show own c gB (shareDrop fullShare 7) (gAll m)
      ⊢ iprop(own c (slot gB c) (shareDrop fullShare 7) (gv m c) ∗ bigSepL peers fun r => own c (slot gB (peer c r)) (shareDrop fullShare 7) (gv m (peer c r))) from by
    rw [← slots_gAll]; exact slots_split c gB (shareDrop fullShare 7) (gAll m)) $$ Hall
  icases Hall with ⟨Hg, Hp⟩
  iapply HQ
  isplitl [Hg]; · iexact Hg
  isplitl [Hp Ht]
  · iapply ej
    isplitl [Hp]; · iexact Hp
    iexact Ht
  iexact Ho

/-! ## Draining the sends -/

theorem drains_spec (w : Fin 3) (f : Fin 7 → Code F PUnit) (src dst : Fin 7 → Memref sig .tc .vmem S1x32x1024 .bf16) (sm : Fin 7 → DmaSem sig) (hsm : ∀ r, sm r = sndS w r)
    (hws : ∀ r, (src r).view.WordExact) (hwd : ∀ r, (dst r).view.WordExact) (hf : ∀ r, f r = .op (.waitDma2 (sm r) (src r) (dst r) (hws r) (hwd r)) .ret)
    (hN : ∀ r, (dst r).view.dmaCredit = N) (l : List (Fin 7)) (Q : PUnit → sProp 𝕄) :
    iprop(know m K ∗ bigSepL l (fun r => iprop(cred (tallyAt (sndCell c w r) () N) ∗ atPos ER (sndCell c w r) 0 ∅ 0)) ∗ owesAny c 0
        ∗ (iprop(bigSepL l (fun r => iprop(sndPay m c w r ∗ semVal (sndCell c w r) 0)) ∗ owesAny c 0) -∗ Q ⟨⟩))
      ⊢ wpc c (forL l f) Q := by
  iintro ⟨#Hk, H, HO, HQ⟩
  iapply (wp_forL c f (fun r => iprop(cred (tallyAt (sndCell c w r) () N) ∗ atPos ER (sndCell c w r) 0 ∅ 0))
    (fun r => iprop(sndPay m c w r ∗ semVal (sndCell c w r) 0)) (fun _ => iprop(know m K ∗ owesAny c 0)) l (by
    intro r l' _ Q
    rw [hf r]
    iintro ⟨⟨Hc, Ha⟩, ⟨#Hk, HO⟩, HQ⟩
    iapply (step_drain m K c w r (src r) (dst r) (sm r) (hsm r) (hN r))
    isplitr; · iexact Hk
    isplitl [HO]; · iexact HO
    isplitl [Hc]; · iexact Hc
    isplitl [Ha]; · iexact Ha
    iintro ⟨HO, Hp, Hv⟩
    iapply (wpc_ret c)
    iapply HQ
    isplitl [Hp Hv]
    · isplitl [Hp]; · iexact Hp
      iexact Hv
    isplitr; · iexact Hk
    iexact HO) Q)
  isplitl [H]; · iexact H
  isplitl [HO]
  · isplitr; · iexact Hk
    iexact HO
  iintro ⟨H, -, HO⟩
  iapply HQ
  isplitl [H]; · iexact H
  iexact HO

end Frags

end Cert.KernelIdeal.Ulysses
-- ==== Proof.Body.lean ====
/- The body of the kernel on one device, from what it starts from to what it ends with. -/
module

public import proofs.«01_k».proof.Proof.FragB

@[expose] public section

set_option maxRecDepth 65536

noncomputable section

namespace Cert.KernelIdeal.Ulysses

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × CK → ℕ) (c : Dev nD)

/-! ## What the body starts from and ends with -/

abbrev bufAny {sp : Space} {sh : Shape} {e : EltTy} (b : Memref sig .tc sp sh e) : sProp 𝕄 := iprop(∃ X : sh.Idx → Elt F e, own c b fullShare X)

/-- The scratch buffers. -/
def bufs : sProp 𝕄 :=
  iprop(bufAny c wqB ∗ bufAny c woB ∗ bufAny c kB ∗ bufAny c vB ∗ bufAny c qB ∗ bufAny c cB ∗ bufAny c paB ∗ bufAny c pbB ∗ bufAny c redB ∗ bufAny c raB ∗ bufAny c rbB ∗ bufAny c gB)
/-- The arrays the body reads. -/
def arrs : sProp 𝕄 :=
  iprop(own c wqA fullShare (m ((c : Thread nD τ).loc main_arg1)) ∗ own c kA fullShare (m ((c : Thread nD τ).loc main_arg2))
    ∗ own c vA fullShare (m ((c : Thread nD τ).loc main_arg3)) ∗ own c woA fullShare (m ((c : Thread nD τ).loc main_arg4)))
/-- The semaphores of the copies within the device. -/
def lows : sProp 𝕄 :=
  iprop(semVal ((c : Thread nD τ), .dma (sem2 0)) 0 ∗ semVal ((c : Thread nD τ), .dma (sem2 1)) 0
    ∗ (bigSepL heads fun h => semVal ((c : Thread nD τ), .dma (sem8 cc0_scratch13 h)) 0) ∗ bigSepL heads fun h => semVal ((c : Thread nD τ), .dma (sem8 cc0_scratch14 h)) 0)
/-- Exchange `w` before and after. -/
def xchg (w : Fin 3) : sProp 𝕄 :=
  iprop((bigSepL sendOrder fun r => iprop(dutyTok ER (sndCell c w r) 0 c ∗ dutyTok ER (rcvCell (peer c r) w c) 0 c))
    ∗ (bigSepL sendOrder fun r => atPos ER (sndCell c w r) 0 ∅ 0)
    ∗ (bigSepL peers fun r => iprop(cred (tallyAt (rcvCell c w (peer c r)) () N) ∗ atPos ER (rcvCell c w (peer c r)) 0 ∅ 0))
    ∗ atPos ER (rcvCell c w c) 0 ∅ 0)
def xdone (w : Fin 3) : sProp 𝕄 :=
  iprop((bigSepL sendOrder fun r => semVal (sndCell c w r) 0) ∗ (bigSepL peers fun r => semVal (rcvCell c w (peer c r)) 0) ∗ semVal (rcvCell c w c) 0)
/-- The barrier's wait and signals. -/
def barRes : sProp 𝕄 :=
  iprop(cred (tallyAt (barCell c) () 7) ∗ atPos ER (barCell c) 0 ∅ 0 ∗ bigSepL peers fun r => dutyTok ER (barCell (peer c r)) 0 c)

/-! ## Regrouping -/

theorem any_of {sp : Space} {sh : Shape} {e : EltTy} (b : Memref sig .tc sp sh e) (X : sh.Idx → Elt F e) : own c b fullShare X ⊢ (bufAny c b : sProp 𝕄) := by
  iintro H; iexists X; iexact H

theorem slots_out (b : Memref sig .tc .vmem S8x32x1024 .bf16) : bufAny c b ⊢ (iprop(slotAny c b c ∗ bigSepL peers fun r => slotAny c b (peer c r)) : sProp 𝕄) := by
  rw [← over_peers c (fun s => slotAny c b s)]
  iintro ⟨%X, H⟩
  iapply (show bigSep Finset.univ (fun s : Fin 8 => own c (slot b s) fullShare (fun j => X ((slotR s).emb j))) ⊢ bigSep Finset.univ (fun s => slotAny c b s) from
    bigSep_mono fun s _ => any_of c (slot b s) _)
  iapply (slots_split c b fullShare X)
  iexact H

theorem slots_in (b : Memref sig .tc .vmem S8x32x1024 .bf16) : iprop(slotAny c b c ∗ bigSepL peers fun r => slotAny c b (peer c r)) ⊢ (bufAny c b : sProp 𝕄) := by
  rw [← over_peers c (fun s => slotAny c b s)]
  exact slots_any c b

theorem slots_in' (b : Memref sig .tc .vmem S8x32x1024 .bf16) : iprop(slotAny c b c ∗ bigSepL sendOrder fun r => slotAny c b (peer c r)) ⊢ (bufAny c b : sProp 𝕄) := by
  rw [← over_sends c (fun s => slotAny c b s)]
  exact slots_any c b

theorem pays_out : iprop(bufAny c raB ∗ bufAny c rbB ∗ bufAny c gB)
    ⊢ (iprop(slotAny c raB c ∗ slotAny c rbB c ∗ slotAny c gB c ∗ bigSepL peers fun r => barPay (peer c r) c) : sProp 𝕄) := by
  unfold barPay
  iintro ⟨H1, H2, H3⟩
  ihave H1 := (slots_out c raB) $$ H1
  ihave H2 := (slots_out c rbB) $$ H2
  ihave H3 := (slots_out c gB) $$ H3
  icases H1 with ⟨A1, H1⟩
  icases H2 with ⟨A2, H2⟩
  icases H3 with ⟨A3, H3⟩
  isplitl [A1]; · iexact A1
  isplitl [A2]; · iexact A2
  isplitl [A3]; · iexact A3
  iapply (sepL_join (fun r => slotAny c raB (peer c r)) (fun r => iprop(slotAny c rbB (peer c r) ∗ slotAny c gB (peer c r))) peers)
  isplitl [H1]; · iexact H1
  iapply (sepL_join (fun r => slotAny c rbB (peer c r)) (fun r => slotAny c gB (peer c r)) peers)
  isplitl [H2]; · iexact H2
  iexact H3

theorem pays_in : (bigSepL sendOrder fun r => barPay c (peer c r))
    ⊢ (iprop((bigSepL sendOrder fun r => slotAny (peer c r) raB c) ∗ (bigSepL sendOrder fun r => slotAny (peer c r) rbB c) ∗ bigSepL sendOrder fun r => slotAny (peer c r) gB c) : sProp 𝕄) := by
  unfold barPay
  iintro H
  ihave H := (sepL_split (fun r => slotAny (peer c r) raB c) (fun r => iprop(slotAny (peer c r) rbB c ∗ slotAny (peer c r) gB c)) sendOrder) $$ H
  icases H with ⟨H1, H⟩
  ihave H := (sepL_split (fun r => slotAny (peer c r) rbB c) (fun r => slotAny (peer c r) gB c) sendOrder) $$ H
  icases H with ⟨H2, H3⟩
  isplitl [H1]; · iexact H1
  isplitl [H2]; · iexact H2
  iexact H3

/-- A product's slots: this device's own, and each peer's with what its send takes. -/
theorem sends_in (w : Fin 3) (p : Memref sig .tc .vmem S8x32x1024 .bf16) (b : Fin 2) :
    iprop(own c p fullShare (part m c b) ∗ (bigSepL sendOrder fun r => slotAny (peer c r) (landB w) c)
        ∗ (bigSepL sendOrder fun r => iprop(dutyTok ER (sndCell c w r) 0 c ∗ dutyTok ER (rcvCell (peer c r) w c) 0 c)))
      ⊢ (iprop(own c (slot p c) fullShare (partAt m c b c) ∗ bigSepL sendOrder (sendRes m c w p b)) : sProp 𝕄) := by
  iintro ⟨Hp, Hs, Ht⟩
  ihave Hp := (show own c p fullShare (part m c b) ⊢ bigSep Finset.univ (fun s : Fin 8 => own c (slot p s) fullShare (partAt m c b s)) from slots_split c p fullShare (part m c b)) $$ Hp
  ihave Hp := (Entails.of_eq (over_sends c (fun s => own c (slot p s) fullShare (partAt m c b s)))) $$ Hp
  icases Hp with ⟨H0, Hp⟩
  isplitl [H0]; · iexact H0
  iapply (sepL_join (fun r => own c (slot p (peer c r)) fullShare (partAt m c b (peer c r)))
    (fun r => iprop(slotAny (peer c r) (landB w) c ∗ dutyTok ER (sndCell c w r) 0 c ∗ dutyTok ER (rcvCell (peer c r) w c) 0 c)) sendOrder)
  isplitl [Hp]; · iexact Hp
  iapply (sepL_join (fun r => slotAny (peer c r) (landB w) c) (fun r => iprop(dutyTok ER (sndCell c w r) 0 c ∗ dutyTok ER (rcvCell (peer c r) w c) 0 c)) sendOrder)
  isplitl [Hs]; · iexact Hs
  iexact Ht

/-- The gathering slot lent to the sends. -/
theorem sendGs_in : iprop(own c (slot gB c) fullShare (gv m c) ∗ (bigSepL sendOrder fun r => slotAny (peer c r) gB c)
        ∗ (bigSepL sendOrder fun r => iprop(dutyTok ER (sndCell c 2 r) 0 c ∗ dutyTok ER (rcvCell (peer c r) 2 c) 0 c)))
      ⊢ (iprop(own c (slot gB c) (shareDrop fullShare 7) (gv m c) ∗ bigSepL sendOrder (sendGRes m c)) : sProp 𝕄) := by
  iintro ⟨Hp, Hs, Ht⟩
  ihave Hp := (own_toks_split c (slot gB c) fullShare 7 (gv m c)) $$ Hp
  ihave Hp := (Entails.of_eq (congrArg (fun z => iprop(own c (slot gB c) (shareDrop fullShare 7) (gv m c) ∗ z)) (over7 (fun i => own c (slot gB c) (gShare i) (gv m c))))) $$ Hp
  icases Hp with ⟨H0, Hp⟩
  isplitl [H0]; · iexact H0
  iapply (sepL_join (fun r => own c (slot gB c) (gShare r) (gv m c))
    (fun r => iprop(slotAny (peer c r) gB c ∗ dutyTok ER (sndCell c 2 r) 0 c ∗ dutyTok ER (rcvCell (peer c r) 2 c) 0 c)) sendOrder)
  isplitl [Hp]; · iexact Hp
  iapply (sepL_join (fun r => slotAny (peer c r) gB c) (fun r => iprop(dutyTok ER (sndCell c 2 r) 0 c ∗ dutyTok ER (rcvCell (peer c r) 2 c) 0 c)) sendOrder)
  isplitl [Hs]; · iexact Hs
  iexact Ht

theorem gather_out : iprop(own c (slot gB c) (shareDrop fullShare 7) (gv m c) ∗ (bigSepL sendOrder fun r => sndPay m c 2 r)
      ∗ bigSepL peers fun r => own c (slot gB (peer c r)) fullShare (gv m (peer c r))) ⊢ (bufAny c gB : sProp 𝕄) := by
  iintro ⟨H0, Ht, Hp⟩
  iapply (slots_in c gB)
  isplitl [H0 Ht]
  · iexists (gv m c)
    iapply (own_toks_join c (slot gB c) fullShare 7 (gv m c))
    isplitl [H0]; · iexact H0
    iapply (Entails.of_eq (over7 (fun i => own c (slot gB c) (gShare i) (gv m c))).symm)
    iexact Ht
  · iapply (show (bigSepL peers fun r => own c (slot gB (peer c r)) fullShare (gv m (peer c r))) ⊢ bigSepL peers fun r => slotAny c gB (peer c r) from
      bigSepL_mono fun r _ => any_of c (slot gB (peer c r)) _)
    iexact Hp

theorem prod_out (w : Fin 3) (p : Memref sig .tc .vmem S8x32x1024 .bf16) (b : Fin 2) (h : ∀ r, sndPay m c w r ⊢ slotAny c p (peer c r)) :
    iprop(own c (slot p c) fullShare (partAt m c b c) ∗ bigSepL sendOrder fun r => sndPay m c w r) ⊢ (bufAny c p : sProp 𝕄) := by
  iintro ⟨H0, Hp⟩
  iapply (slots_in' c p)
  isplitl [H0]; · iexists _; iexact H0
  iapply (show (bigSepL sendOrder fun r => sndPay m c w r) ⊢ bigSepL sendOrder fun r => slotAny c p (peer c r) from bigSepL_mono fun r _ => h r)
  iexact Hp

/-- Everything the heads' copies start from. -/
theorem heads_in : iprop(bufAny c kB ∗ bufAny c vB ∗ own c kA fullShare (m ((c : Thread nD τ).loc main_arg2)) ∗ own c vA fullShare (m ((c : Thread nD τ).loc main_arg3))
      ∗ (bigSepL heads fun h => semVal ((c : Thread nD τ), .dma (sem8 cc0_scratch13 h)) 0) ∗ bigSepL heads fun h => semVal ((c : Thread nD τ), .dma (sem8 cc0_scratch14 h)) 0)
    ⊢ (iprop(bigSepL heads (headRes m c)
        ∗ ((bigSepL heads fun h => own c (kvSrc kA h) fullShare (kv2 m c h)) -∗ own c kA fullShare (m ((c : Thread nD τ).loc main_arg2)))
        ∗ ((bigSepL heads fun h => own c (kvSrc vA h) fullShare (vv2 m c h)) -∗ own c vA fullShare (m ((c : Thread nD τ).loc main_arg3)))) : sProp 𝕄) := by
  unfold headRes
  iintro ⟨⟨%X, Hk⟩, ⟨%Y, Hv⟩, Ak, Av, Sk, Sv⟩
  ihave Hk := (heads_split c kB X) $$ Hk
  ihave Hv := (heads_split c vB Y) $$ Hv
  ihave Ak := (show own c kA fullShare (m ((c : Thread nD τ).loc main_arg2)) ⊢ iprop((bigSepL heads fun h => own c (kvSrc kA h) fullShare (kv2 m c h)) ∗ ((bigSepL heads fun h => own c (kvSrc kA h) fullShare (kv2 m c h)) -∗ own c kA fullShare (m ((c : Thread nD τ).loc main_arg2)))) from kv_split c kA (m ((c : Thread nD τ).loc main_arg2))) $$ Ak
  ihave Av := (show own c vA fullShare (m ((c : Thread nD τ).loc main_arg3)) ⊢ iprop((bigSepL heads fun h => own c (kvSrc vA h) fullShare (vv2 m c h)) ∗ ((bigSepL heads fun h => own c (kvSrc vA h) fullShare (vv2 m c h)) -∗ own c vA fullShare (m ((c : Thread nD τ).loc main_arg3)))) from kv_split c vA (m ((c : Thread nD τ).loc main_arg3))) $$ Av
  icases Ak with ⟨Ak, Bk⟩
  icases Av with ⟨Av, Bv⟩
  isplitl [Hk Hv Ak Av Sk Sv]
  · iapply (sepL_join (fun h => iprop(headAny c kB h ∗ own c (kvSrc kA h) fullShare (kv2 m c h) ∗ semVal ((c : Thread nD τ), .dma (sem8 cc0_scratch13 h)) 0))
      (fun h => iprop(headAny c vB h ∗ own c (kvSrc vA h) fullShare (vv2 m c h) ∗ semVal ((c : Thread nD τ), .dma (sem8 cc0_scratch14 h)) 0)) heads)
    isplitl [Hk Ak Sk]
    · iapply (sepL_join (fun h => headAny c kB h) (fun h => iprop(own c (kvSrc kA h) fullShare (kv2 m c h) ∗ semVal ((c : Thread nD τ), .dma (sem8 cc0_scratch13 h)) 0)) heads)
      isplitl [Hk]; · iexact Hk
      iapply (sepL_join (fun h => own c (kvSrc kA h) fullShare (kv2 m c h)) (fun h => semVal ((c : Thread nD τ), .dma (sem8 cc0_scratch13 h)) 0) heads)
      isplitl [Ak]; · iexact Ak
      iexact Sk
    · iapply (sepL_join (fun h => headAny c vB h) (fun h => iprop(own c (kvSrc vA h) fullShare (vv2 m c h) ∗ semVal ((c : Thread nD τ), .dma (sem8 cc0_scratch14 h)) 0)) heads)
      isplitl [Hv]; · iexact Hv
      iapply (sepL_join (fun h => own c (kvSrc vA h) fullShare (vv2 m c h)) (fun h => semVal ((c : Thread nD τ), .dma (sem8 cc0_scratch14 h)) 0) heads)
      isplitl [Av]; · iexact Av
      iexact Sv
  isplitl [Bk]; · iexact Bk
  iexact Bv

theorem heads_out : bigSepL heads (headRes m c)
    ⊢ (iprop((bufAny c kB ∗ (bigSepL heads fun h => own c (kvSrc kA h) fullShare (kv2 m c h)) ∗ bigSepL heads fun h => semVal ((c : Thread nD τ), .dma (sem8 cc0_scratch13 h)) 0)
        ∗ bufAny c vB ∗ (bigSepL heads fun h => own c (kvSrc vA h) fullShare (vv2 m c h)) ∗ bigSepL heads fun h => semVal ((c : Thread nD τ), .dma (sem8 cc0_scratch14 h)) 0) : sProp 𝕄) := by
  unfold headRes
  iintro H
  ihave H := (sepL_split (fun h => iprop(headAny c kB h ∗ own c (kvSrc kA h) fullShare (kv2 m c h) ∗ semVal ((c : Thread nD τ), .dma (sem8 cc0_scratch13 h)) 0))
      (fun h => iprop(headAny c vB h ∗ own c (kvSrc vA h) fullShare (vv2 m c h) ∗ semVal ((c : Thread nD τ), .dma (sem8 cc0_scratch14 h)) 0)) heads) $$ H
  icases H with ⟨H, H'⟩
  isplitl [H]
  · ihave H := (sepL_split (fun h => headAny c kB h) (fun h => iprop(own c (kvSrc kA h) fullShare (kv2 m c h) ∗ semVal ((c : Thread nD τ), .dma (sem8 cc0_scratch13 h)) 0)) heads) $$ H
    icases H with ⟨H1, H⟩
    isplitl [H1]; · iapply (heads_join c kB); iexact H1
    iapply (sepL_split (fun h => own c (kvSrc kA h) fullShare (kv2 m c h)) (fun h => semVal ((c : Thread nD τ), .dma (sem8 cc0_scratch13 h)) 0) heads)
    iexact H
  · ihave H' := (sepL_split (fun h => headAny c vB h) (fun h => iprop(own c (kvSrc vA h) fullShare (vv2 m c h) ∗ semVal ((c : Thread nD τ), .dma (sem8 cc0_scratch14 h)) 0)) heads) $$ H'
    icases H' with ⟨H1, H⟩
    isplitl [H1]; · iapply (heads_join c vB); iexact H1
    iapply (sepL_split (fun h => own c (kvSrc vA h) fullShare (vv2 m c h)) (fun h => semVal ((c : Thread nD τ), .dma (sem8 cc0_scratch14 h)) 0) heads)
    iexact H

/-! ## The body -/

def bodyPre (x o : Memref sig .tc .vmem S1x256x1024 .f32) : sProp 𝕄 :=
  iprop(owesAny c (O₀ c) ∗ own c x fullShare (xv m c) ∗ bufAny c o ∗ bufs c ∗ arrs m c ∗ lows c ∗ barRes c ∗ xchg c 0 ∗ xchg c 1 ∗ xchg c 2)
def bodyPost (x o : Memref sig .tc .vmem S1x256x1024 .f32) : sProp 𝕄 :=
  iprop(owesAny c 0 ∗ own c x fullShare (xv m c) ∗ own c o fullShare (outv m) ∗ bufs c ∗ arrs m c ∗ lows c ∗ semVal (barCell c) 0 ∗ xdone c 0 ∗ xdone c 1 ∗ xdone c 2)

theorem heads_two (Φ : Fin 8 → sProp (MT nD τ sig Unit (Elt F) ℕ UU ℕ)) : bigSepL heads Φ = iprop(bigSepL [0, 1, 2, 3] Φ ∗ bigSepL [4, 5, 6, 7] Φ) := by
  rw [← bigSepL_append]; rfl

/-- Sequencing. -/
theorem seq_spec {α β : Type} (p : Code F α) (k : α → Code F β) (Q : β → sProp (MT nD τ sig Unit (Elt F) ℕ UU ℕ)) :
    wpc c p (fun a => wpc c (k a) Q) ⊢ wpc c (p >>= k) Q := by
  unfold wpc; rw [wp_bind]
theorem device_spec {β : Type} (k : Dev nD → Code F β) (Q : β → sProp (MT nD τ sig Unit (Elt F) ℕ UU ℕ)) :
    wpc c (k c) Q ⊢ wpc c (Prog.lift .deviceId >>= k) Q := by
  unfold wpc
  rw [show (Prog.lift .deviceId >>= k : Code F β) = .op .deviceId k from rfl, wp_deviceId]

omit [FloatOps F] in
theorem first_heads (h : Fin 8) (q : Fin 4) : h.val / 4 = (0 : Fin 2).val → h ∉ ([4, 5, 6, 7] : List (Fin 8)) := by revert h; decide

theorem body_spec (x o : Memref sig .tc .vmem S1x256x1024 .f32) (Q : PUnit → sProp 𝕄) :
    iprop(know m K ∗ bodyPre m c x o ∗ (bodyPost m c x o -∗ Q ⟨⟩)) ⊢ wpc c (prog x o) Q := by
  unfold prog bodyPre bodyPost bufs arrs lows barRes xchg xdone O₀
  iintro ⟨#Hk, ⟨HO, Hx, Ho, ⟨BwQ, BwO, Bk, Bv, Bq, Bc, Bpa, Bpb, Bred, Bra, Brb, Bg⟩, ⟨Aq, Ak, Av, Ao⟩, ⟨Sq, So, Sk, Sv⟩, ⟨Cb, Pb, Tb⟩,
    ⟨T0, P0, R0, U0⟩, ⟨T1, P1, R1, U1⟩, ⟨T2, P2, R2, U2⟩⟩, HQ⟩
  ihave Hh := (heads_in m c) $$ [Bk Bv Ak Av Sk Sv]
  · isplitl [Bk]; · iexact Bk
    isplitl [Bv]; · iexact Bv
    isplitl [Ak]; · iexact Ak
    isplitl [Av]; · iexact Av
    isplitl [Sk]; · iexact Sk
    iexact Sv
  icases Hh with ⟨Hh, Kb, Vb⟩
  ihave Aq := (show own c wqA fullShare (m ((c : Thread nD τ).loc main_arg1)) ⊢ iprop(own c (wqSrc c) fullShare (wqv m c) ∗ (own c (wqSrc c) fullShare (wqv m c) -∗ own c wqA fullShare (m ((c : Thread nD τ).loc main_arg1)))) from block_split c wqA _ (fun _ => rfl) (m ((c : Thread nD τ).loc main_arg1))) $$ Aq
  icases Aq with ⟨Aq, Qb⟩
  ihave Ao := (show own c woA fullShare (m ((c : Thread nD τ).loc main_arg4)) ⊢ iprop(own c (woSrc c) fullShare (wov m c) ∗ (own c (woSrc c) fullShare (wov m c) -∗ own c woA fullShare (m ((c : Thread nD τ).loc main_arg4)))) from block_split c woA _ (fun _ => rfl) (m ((c : Thread nD τ).loc main_arg4))) $$ Ao
  icases Ao with ⟨Ao, Ob⟩
  ihave Hs := (pays_out c) $$ [Bra Brb Bg]
  · isplitl [Bra]; · iexact Bra
    isplitl [Brb]; · iexact Brb
    iexact Bg
  icases Hs with ⟨Sra, Srb, Sg, Hs⟩
  imod (step_own_cell m K c 0) $$ [U0] with U0
  · isplitr; · iexact Hk
    iexact U0
  imod (step_own_cell m K c 1) $$ [U1] with U1
  · isplitr; · iexact Hk
    iexact U1
  imod (step_own_cell m K c 2) $$ [U2] with U2
  · isplitr; · iexact Hk
    iexact U2
  iapply (device_spec c)
  iapply (seq_spec c)
  iapply (loadW_spec m c)
  isplitl [BwQ]; · iexact BwQ
  isplitl [Aq]; · iexact Aq
  isplitl [Sq]; · iexact Sq
  isplitl [BwO]; · iexact BwO
  isplitl [Ao]; · iexact Ao
  isplitl [So]; · iexact So
  iintro ⟨FQ, FO⟩
  iapply (seq_spec c)
  iapply (loads_spec m c)
  isplitl [Hh]; · iexact Hh
  iintro FH
  iapply (seq_spec c)
  iapply (sigs_spec m K c sendOrder sendOrder sendOrder)
  isplitr; · iexact Hk
  isplitl [Tb Hs]
  · iapply (sepL_join (fun r => dutyTok ER (barCell (peer c r)) 0 c) (fun r => barPay (peer c r) c) peers)
    isplitl [Tb]; · iexact Tb
    iexact Hs
  isplitl [HO]; · iexact HO
  iintro HO
  iapply (seq_spec c)
  iapply (step_bar m K c sendOrder sendOrder sendOrder)
  isplitr; · iexact Hk
  isplitl [HO]; · iexact HO
  isplitl [Cb]; · iexact Cb
  isplitl [Pb]; · iexact Pb
  iintro ⟨HO, Vbar, Hs⟩
  ihave Hs := (pays_in c) $$ Hs
  icases Hs with ⟨L0, L1, L2⟩
  iapply (seq_spec c)
  iapply (queries_spec m K c x [] sendOrder sendOrder sendOrder)
  isplitr; · iexact Hk
  isplitl [HO]; · iexact HO
  isplitl [FQ]; · iexact FQ
  isplitl [Hx]; · iexact Hx
  isplitl [Bq]; · iexact Bq
  iintro ⟨HO, BwQ, Aq, Sq, Hx, Bq⟩
  ihave FH := (Entails.of_eq (heads_two (fun h => iprop(FK m c h ∗ FV m c h)))) $$ FH
  icases FH with ⟨FH1, FH2⟩
  iapply (seq_spec c)
  iapply (attends_spec m K c [0, 1, 2, 3] [4, 5, 6, 7] [] sendOrder sendOrder sendOrder)
  isplitr; · iexact Hk
  isplitl [HO]; · iexact HO
  isplitl [FH1]; · iexact FH1
  isplitl [Bq]; · iexact Bq
  isplitl [Bc]
  · icases Bc with ⟨%X, Bc⟩
    iexists X
    isplitl [Bc]; · iexact Bc
    ipureintro
    intro h q hh
    exact absurd hh (by revert h; decide)
  iintro ⟨HO, HR1, Bq, Bc⟩
  iapply (seq_spec c)
  iapply (low_wait m K c (sem2 1) (by decide) [] sendOrder sendOrder sendOrder (woSrc c) woB rfl _)
  isplitr; · iexact Hk
  isplitl [HO]; · iexact HO
  isplitl [FO]; · iexact FO
  iintro ⟨HO, ⟨BwO, Ao⟩, So⟩
  iapply (wpc_ret c)
  iapply (seq_spec c)
  iapply (product_spec m c 0 paB (Memref.isWhole_whole cc0_scratch6) (fun h _ => h ∉ ([4, 5, 6, 7] : List (Fin 8))) first_heads)
  isplitl [Bc]; · iexact Bc
  isplitl [BwO]; · iexact BwO
  isplitl [Bpa]; · iexact Bpa
  iintro ⟨Bc, BwO, Bpa⟩
  ihave Hp := (sends_in m c 0 paB 0) $$ [Bpa L0 T0]
  · isplitl [Bpa]; · iexact Bpa
    isplitl [L0]; · iexact L0
    iexact T0
  icases Hp with ⟨Bpa, Hp⟩
  iapply (seq_spec c)
  iapply (sendPs_spec m K c 0 paB (Memref.isWhole_whole cc0_scratch6) raB (Memref.isWhole_whole cc0_scratch9) cc0_scratch15 cc0_scratch16 (devA c) 0 (devA_eq c) rfl rfl rfl
    (fun _ => .rfl) (fun _ => .rfl) (tl (owX c 2) sendOrder + tl (owX c 1) sendOrder) sendOrder)
  isplitr; · iexact Hk
  isplitl [Hp]; · iexact Hp
  isplitl [HO]; · iapply (Entails.of_eq (congrArg (owesAny c) (owed_0 c sendOrder sendOrder sendOrder))); iexact HO
  iintro ⟨C0, HO⟩
  ihave HO := (Entails.of_eq (congrArg (owesAny c) (owed_0 c [] sendOrder sendOrder).symm)) $$ HO
  iapply (seq_spec c)
  iapply (attends_spec m K c [4, 5, 6, 7] [] [] [] sendOrder sendOrder)
  isplitr; · iexact Hk
  isplitl [HO]; · iexact HO
  isplitl [FH2]; · iexact FH2
  isplitl [Bq]; · iexact Bq
  isplitl [Bc]
  · icases Bc with ⟨%X, Bc, %hX⟩
    iexists X
    isplitl [Bc]; · iexact Bc
    ipureintro
    exact ctxOk_mono m c hX (fun h q hh => hh.1)
  iintro ⟨HO, HR2, Bq, Bc⟩
  iapply (seq_spec c)
  iapply (product_spec m c 1 pbB (Memref.isWhole_whole cc0_scratch7) (fun h _ => h ∉ ([] : List (Fin 8))) (fun _ _ _ => List.not_mem_nil))
  isplitl [Bc]; · iexact Bc
  isplitl [BwO]; · iexact BwO
  isplitl [Bpb]; · iexact Bpb
  iintro ⟨Bc, BwO, Bpb⟩
  ihave Hp := (sends_in m c 1 pbB 1) $$ [Bpb L1 T1]
  · isplitl [Bpb]; · iexact Bpb
    isplitl [L1]; · iexact L1
    iexact T1
  icases Hp with ⟨Bpb, Hp⟩
  iapply (seq_spec c)
  iapply (sendPs_spec m K c 1 pbB (Memref.isWhole_whole cc0_scratch7) rbB (Memref.isWhole_whole cc0_scratch10) cc0_scratch17 cc0_scratch18 (devB c) 1 (devB_eq c) rfl rfl rfl
    (fun _ => .rfl) (fun _ => .rfl) (tl (owX c 2) sendOrder) sendOrder)
  isplitr; · iexact Hk
  isplitl [Hp]; · iexact Hp
  isplitl [HO]; · iapply (Entails.of_eq (congrArg (owesAny c) (owed_1 c sendOrder sendOrder))); iexact HO
  iintro ⟨C1, HO⟩
  ihave HO := (Entails.of_eq (congrArg (owesAny c) (owed_1 c [] sendOrder).symm)) $$ HO
  iapply (seq_spec c)
  iapply (ownSum_spec m c)
  isplitl [Bpa]; · iexact Bpa
  isplitl [Bpb]; · iexact Bpb
  isplitl [Bred]; · iexact Bred
  iintro ⟨Bpa, Bpb, Bred⟩
  iapply (seq_spec c)
  iapply (collects_spec m K c 0 (by decide) 0 raB (Memref.isWhole_whole cc0_scratch9) cc0_scratch16 rfl rfl (fun _ => rfl) (fun _ => .rfl) sendOrder peers (red0 m c))
  isplitr; · iexact Hk
  isplitl [R0]; · iexact R0
  isplitl [HO]; · iexact HO
  isplitl [Bred]; · iexact Bred
  iintro ⟨R0, HO, Bred⟩
  iapply (seq_spec c)
  iapply (collects_spec m K c 1 (by decide) 1 rbB (Memref.isWhole_whole cc0_scratch10) cc0_scratch18 rfl rfl (fun _ => rfl) (fun _ => .rfl) sendOrder peers (red1 m c))
  isplitr; · iexact Hk
  isplitl [R1]; · iexact R1
  isplitl [HO]; · iexact HO
  isplitl [Bred]; · iexact Bred
  iintro ⟨R1, HO, Bred⟩
  iapply (seq_spec c)
  iapply (putSum_spec m c)
  isplitl [Bred]; · iexact Bred
  isplitl [Sg]; · iexact Sg
  iintro ⟨Bred, Sg⟩
  ihave Hp := (sendGs_in m c) $$ [Sg L2 T2]
  · isplitl [Sg]; · iexact Sg
    isplitl [L2]; · iexact L2
    iexact T2
  icases Hp with ⟨Sg, Hp⟩
  iapply (seq_spec c)
  iapply (sendGs_spec m K c 0 sendOrder)
  isplitr; · iexact Hk
  isplitl [Hp]; · iexact Hp
  isplitl [HO]; · iapply (Entails.of_eq (congrArg (owesAny c) (owed_2 c sendOrder))); iexact HO
  iintro ⟨C2, HO⟩
  ihave HO := (Entails.of_eq (congrArg (owesAny c) (show (0 : CellTallies nD τ sig Unit) + tl (owX c 2) [] = 0 from add_zero 0))) $$ HO
  iapply (seq_spec c)
  iapply (recvGs_spec m K c peers)
  isplitr; · iexact Hk
  isplitl [R2]; · iexact R2
  isplitl [HO]; · iexact HO
  iintro ⟨R2, HO⟩
  ihave R2 := (sepL_split (fun r => own c (slot gB (peer c r)) fullShare (gv m (peer c r))) (fun r => semVal (rcvCell c 2 (peer c r)) 0) peers) $$ R2
  icases R2 with ⟨G2, R2⟩
  iapply (seq_spec c)
  iapply (output_spec m c o)
  isplitl [Sg]; · iexact Sg
  isplitl [G2]; · iexact G2
  isplitl [Ho]; · iexact Ho
  iintro ⟨Sg, G2, Ho⟩
  iapply (seq_spec c)
  iapply (drains_spec m K c 0 _ (fun r => mySlot raB c) (fun r => peerSlot paB c r) (fun r => sem7 cc0_scratch15 r) (sem7_eq 0) (fun r => (Memref.isWhole_whole cc0_scratch9).wordExact_slice rfl _ (k0_off4_wordsbf16 c))
    (fun r => (Memref.isWhole_whole cc0_scratch6).wordExact_slice rfl _ (k0_off5_wordsbf16 c r)) (fun _ => rfl) (fun _ => rfl) sendOrder)
  isplitr; · iexact Hk
  isplitl [C0 P0]
  · iapply (sepL_join (fun r => cred (tallyAt (sndCell c 0 r) () N)) (fun r => atPos ER (sndCell c 0 r) 0 ∅ 0) sendOrder)
    isplitl [C0]; · iexact C0
    iexact P0
  isplitl [HO]; · iexact HO
  iintro ⟨D0, HO⟩
  iapply (seq_spec c)
  iapply (drains_spec m K c 1 _ (fun r => mySlot rbB c) (fun r => peerSlot pbB c r) (fun r => sem7 cc0_scratch17 r) (sem7_eq 1) (fun r => (Memref.isWhole_whole cc0_scratch10).wordExact_slice rfl _ (k0_off4_wordsbf16 c))
    (fun r => (Memref.isWhole_whole cc0_scratch7).wordExact_slice rfl _ (k0_off5_wordsbf16 c r)) (fun _ => rfl) (fun _ => rfl) sendOrder)
  isplitr; · iexact Hk
  isplitl [C1 P1]
  · iapply (sepL_join (fun r => cred (tallyAt (sndCell c 1 r) () N)) (fun r => atPos ER (sndCell c 1 r) 0 ∅ 0) sendOrder)
    isplitl [C1]; · iexact C1
    iexact P1
  isplitl [HO]; · iexact HO
  iintro ⟨D1, HO⟩
  iapply (drains_spec m K c 2 _ (fun r => mySlot gB c) (fun r => mySlot gB c) (fun r => sem7 cc0_scratch19 r) (sem7_eq 2) (fun r => (Memref.isWhole_whole cc0_scratch11).wordExact_slice rfl _ (k0_off4_wordsbf16 c))
    (fun r => (Memref.isWhole_whole cc0_scratch11).wordExact_slice rfl _ (k0_off4_wordsbf16 c)) (fun _ => rfl) (fun _ => rfl) sendOrder)
  isplitr; · iexact Hk
  isplitl [C2 P2]
  · iapply (sepL_join (fun r => cred (tallyAt (sndCell c 2 r) () N)) (fun r => atPos ER (sndCell c 2 r) 0 ∅ 0) sendOrder)
    isplitl [C2]; · iexact C2
    iexact P2
  isplitl [HO]; · iexact HO
  iintro ⟨D2, HO⟩
  ihave D0 := (sepL_split (fun r => sndPay m c 0 r) (fun r => semVal (sndCell c 0 r) 0) sendOrder) $$ D0
  ihave D1 := (sepL_split (fun r => sndPay m c 1 r) (fun r => semVal (sndCell c 1 r) 0) sendOrder) $$ D1
  ihave D2 := (sepL_split (fun r => sndPay m c 2 r) (fun r => semVal (sndCell c 2 r) 0) sendOrder) $$ D2
  icases D0 with ⟨E0, D0⟩
  icases D1 with ⟨E1, D1⟩
  icases D2 with ⟨E2, D2⟩
  ihave R0 := (sepL_split (fun r => slotAny c raB (peer c r)) (fun r => semVal (rcvCell c 0 (peer c r)) 0) peers) $$ R0
  ihave R1 := (sepL_split (fun r => slotAny c rbB (peer c r)) (fun r => semVal (rcvCell c 1 (peer c r)) 0) peers) $$ R1
  icases R0 with ⟨G0, R0⟩
  icases R1 with ⟨G1, R1⟩
  ihave HR := (Entails.of_eq (heads_two (headRes m c)).symm) $$ [HR1 HR2]
  · isplitl [HR1]; · iexact HR1
    iexact HR2
  ihave HR := (heads_out m c) $$ HR
  icases HR with ⟨⟨Bk, Ak, Sk⟩, Bv, Av, Sv⟩
  ihave Ak := Kb $$ Ak
  ihave Av := Vb $$ Av
  ihave Aq := Qb $$ Aq
  ihave Ao := Ob $$ Ao
  ihave Bpa := (prod_out m c 0 paB 0 (fun r => any_of c (slot paB (peer c r)) _)) $$ [Bpa E0]
  · isplitl [Bpa]; · iexact Bpa
    iexact E0
  ihave Bpb := (prod_out m c 1 pbB 1 (fun r => any_of c (slot pbB (peer c r)) _)) $$ [Bpb E1]
  · isplitl [Bpb]; · iexact Bpb
    iexact E1
  ihave Bg := (gather_out m c) $$ [Sg E2 G2]
  · isplitl [Sg]; · iexact Sg
    isplitl [E2]; · iexact E2
    iexact G2
  ihave Bra := (slots_in c raB) $$ [Sra G0]
  · isplitl [Sra]; · iexact Sra
    iexact G0
  ihave Brb := (slots_in c rbB) $$ [Srb G1]
  · isplitl [Srb]; · iexact Srb
    iexact G1
  icases Bc with ⟨%Xc, Bc, -⟩
  iapply HQ
  isplitl [HO]; · iexact HO
  isplitl [Hx]; · iexact Hx
  isplitl [Ho]; · iexact Ho
  isplitl [BwQ BwO Bk Bv Bq Bc Bpa Bpb Bred Bra Brb Bg]
  · isplitl [BwQ]; · iexists _; iexact BwQ
    isplitl [BwO]; · iexists _; iexact BwO
    isplitl [Bk]; · iexact Bk
    isplitl [Bv]; · iexact Bv
    isplitl [Bq]; · iexists _; iexact Bq
    isplitl [Bc]; · iexists _; iexact Bc
    isplitl [Bpa]; · iexact Bpa
    isplitl [Bpb]; · iexact Bpb
    isplitl [Bred]; · iexists _; iexact Bred
    isplitl [Bra]; · iexact Bra
    isplitl [Brb]; · iexact Brb
    iexact Bg
  isplitl [Aq Ak Av Ao]
  · isplitl [Aq]; · iexact Aq
    isplitl [Ak]; · iexact Ak
    isplitl [Av]; · iexact Av
    iexact Ao
  isplitl [Sq So Sk Sv]
  · isplitl [Sq]; · iexact Sq
    isplitl [So]; · iexact So
    isplitl [Sk]; · iexact Sk
    iexact Sv
  isplitl [Vbar]; · iexact Vbar
  isplitl [D0 R0 U0]
  · isplitl [D0]; · iexact D0
    isplitl [R0]; · iexact R0
    iexact U0
  isplitl [D1 R1 U1]
  · isplitl [D1]; · iexact D1
    isplitl [R1]; · iexact R1
    iexact U1
  · isplitl [D2]; · iexact D2
    isplitl [R2]; · iexact R2
    iexact U2

end Body

end Cert.KernelIdeal.Ulysses
-- ==== Proof.Ghost.lean ====
/- The launch's ghost state: the cells of all devices, the tokens paid with, the credits. -/
module

public import proofs.«01_k».proof.Proof.Body

@[expose] public section

set_option maxRecDepth 65536

noncomputable section

namespace Cert.KernelIdeal.Ulysses

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, one after another -/

theorem bar_sem : (SemLoc.reg barS : SemLoc sig) = csem (.inl ()) := rfl

theorem role_csem : ∀ k : CK, roleOf (csem k) = (match k with | .inl _ => Role.bar | .inr (w, .inl r) => Role.snd w r | .inr (w, .inr j) => Role.rcv w j)
  | .inl _ => role_bar
  | .inr (w, .inl r) => role_snd w r
  | .inr (w, .inr j) => role_rcv w j

theorem csem_injective : Function.Injective csem := by
  intro a b h
  have h' := congrArg roleOf h
  rw [role_csem, role_csem] at h'
  rcases a with ⟨⟩ | ⟨w, r | j⟩ <;> rcases b with ⟨⟩ | ⟨w', r' | j'⟩ <;> simp_all

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg (fun g : GSem nD τ sig => g.2) h)
  rw [h1, h2]

/-- The cells of exchange `w`: the sends', the others' landings, the one never used. -/
def ckX (c : Dev nD) (w : Fin 3) : List CK :=
  sendOrder.map (fun r => (.inr (w, .inl r) : CK)) ++ (peers.map (fun r => (.inr (w, .inr (peer c r)) : CK)) ++ [.inr (w, .inr c)])
def ckAll (c : Dev nD) : List CK := .inl () :: (ckX c 0 ++ (ckX c 1 ++ ckX c 2))

theorem ck_all : ∀ c : Dev nD, (Finset.univ : Finset CK) = (ckAll c).toFinset := by decide
theorem ck_nodup : ∀ c : Dev nD, (ckAll c).Nodup := by decide

/-- A family over the cells of exchange `w`. -/
def overX (c : Dev nD) (w : Fin 3) (Φ : CK → sProp (MT nD τ sig Unit (Elt F) ℕ UU ℕ)) : sProp 𝕄 :=
  iprop((bigSepL sendOrder fun r => Φ (.inr (w, .inl r))) ∗ (bigSepL peers fun r => Φ (.inr (w, .inr (peer c r)))) ∗ Φ (.inr (w, .inr c)))

theorem ck_split (c : Dev nD) (Φ : CK → sProp (MT nD τ sig Unit (Elt F) ℕ UU ℕ)) :
    bigSep Finset.univ Φ = iprop(Φ (.inl ()) ∗ overX c 0 Φ ∗ overX c 1 Φ ∗ overX c 2 Φ) := by
  rw [bigSep_univ_eq_bigSepL (ckAll c) (ck_all c) (ck_nodup c) Φ]
  unfold ckAll ckX overX
  rw [bigSepL_cons']
  rw [bigSepL_append, bigSepL_append, bigSepL_append, bigSepL_append, bigSepL_append, bigSepL_append, bigSepL_append, bigSepL_append]
  rw [bigSepL_map, bigSepL_map, bigSepL_map, bigSepL_map, bigSepL_map, bigSepL_map]
  rw [bigSepL_singleton, bigSepL_singleton, bigSepL_singleton]

/-! ## The semaphores of the region -/

/-- The region's own semaphores: all but the two of the staged windows. -/
theorem osemLt (k : Fin 63) : 2 + k.val < 65 := by have := k.isLt; omega
def osem (k : Fin 63) : SemLoc sig := .dma ⟨2 + k.val, osemLt k⟩

theorem ownSemFacts : Pipeline.OwnSemFacts cfg0.spec osem := by decide

/-- Numbers of the semaphores of the copies within the device, and of exchange `w`. -/
theorem kLt (a b n : ℕ) (r : Fin n) (h : a + n ≤ 63) : a + r.val < 63 := by have := r.isLt; omega
def lowNums : List (Fin 63) := [0, 1] ++ (heads.map (fun h => ⟨2 + h.val, kLt 2 0 8 h (by decide)⟩) ++ heads.map (fun h => ⟨10 + h.val, kLt 10 0 8 h (by decide)⟩))
theorem sndNumLt : ∀ (w : Fin 3) (r : Fin 7), 18 + 15 * w.val + r.val < 63 := by decide
theorem rcvNumLt : ∀ (w : Fin 3) (j : Fin 8), 25 + 15 * w.val + j.val < 63 := by decide
def numsX (c : Dev nD) (w : Fin 3) : List (Fin 63) :=
  sendOrder.map (fun r => ⟨18 + 15 * w.val + r.val, sndNumLt w r⟩) ++ (peers.map (fun r => ⟨25 + 15 * w.val + (peer c r).val, rcvNumLt w (peer c r)⟩) ++ [⟨25 + 15 * w.val + c.val, rcvNumLt w c⟩])
def numsAll (c : Dev nD) : List (Fin 63) := lowNums ++ (numsX c 0 ++ (numsX c 1 ++ numsX c 2))

theorem nums_all : ∀ c : Dev nD, (Finset.univ : Finset (Fin 63)) = (numsAll c).toFinset := by decide
theorem nums_nodup : ∀ c : Dev nD, (numsAll c).Nodup := by decide

def lowSems : List (SemLoc sig) :=
  .dma (sem2 0) :: .dma (sem2 1) :: (heads.map (fun h => .dma (sem8 cc0_scratch13 h)) ++ heads.map (fun h => .dma (sem8 cc0_scratch14 h)))
theorem low_sems : lowNums.map osem = lowSems := by decide
theorem nums_sems : ∀ (w : Fin 3) (c : Dev nD), (numsX c w).map osem = (ckX c w).map csem := by decide

theorem overX_sems (c : Dev nD) (w : Fin 3) :
    (bigSepL (numsX c w) (fun k => semVal ((c : Thread nD τ), osem k) 0) : sProp 𝕄) = overX c w (fun k => semVal (kcell (c, k)) 0) := by
  have e := bigSepL_map osem (numsX c w) (fun s => (semVal ((c : Thread nD τ), s) 0 : sProp 𝕄))
  rw [← e, nums_sems, bigSepL_map]
  unfold ckX overX
  rw [bigSepL_append, bigSepL_append, bigSepL_map, bigSepL_map, bigSepL_singleton]

theorem lows_sems (c : Dev nD) : (bigSepL lowNums (fun k => semVal ((c : Thread nD τ), osem k) 0) : sProp 𝕄) = lows c := by
  have e := bigSepL_map osem lowNums (fun s => (semVal ((c : Thread nD τ), s) 0 : sProp 𝕄))
  rw [← e, low_sems]
  unfold lowSems lows
  rw [bigSepL_cons', bigSepL_cons', bigSepL_append, bigSepL_map, bigSepL_map]

theorem ownSems0_eq (c : Dev nD) : (Pipeline.ownSems0 (Ix := Unit) (Name := ℕ) (U := UU) (Lvl := ℕ) (Val := Elt F) (τ := τ) osem c : sProp 𝕄)
    = iprop(lows c ∗ overX c 0 (fun k => semVal (kcell (c, k)) 0) ∗ overX c 1 (fun k => semVal (kcell (c, k)) 0) ∗ overX c 2 (fun k => semVal (kcell (c, k)) 0)) := by
  rw [Pipeline.ownSems0_eq_of_list c osem (numsAll c) (nums_all c) (nums_nodup c)]
  unfold numsAll
  rw [bigSepL_append, bigSepL_append, bigSepL_append, lows_sems, overX_sems, overX_sems, overX_sems]

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_split (c : Dev nD) :
    iprop(Pipeline.ownSems0 (Ix := Unit) (Name := ℕ) (U := UU) (Lvl := ℕ) (Val := Elt F) (τ := τ) osem c ∗ unscopedSems0 c)
      ⊢ (iprop(lows c ∗ bigSep Finset.univ fun k : CK => semVal (kcell (c, k)) 0) : sProp 𝕄) := by
  rw [ownSems0_eq, unscopedSems0_eq, ck_split c]
  iintro ⟨⟨HL, HX⟩, HB⟩
  isplitl [HL]; · iexact HL
  isplitl [HB]; · iexact HB
  iexact HX

/-! ## The tokens a device pays with -/

/-- What a device pays: its signals; in each exchange its sends' own duties and its landings at the others. -/
abbrev TK : Type := Fin 7 ⊕ (Fin 3 × (Fin 7 ⊕ Fin 7))
def tokAt (c : Dev nD) : TK → Dev nD × CK
  | .inl r => (peer c r, .inl ())
  | .inr (w, .inl r) => (c, .inr (w, .inl r))
  | .inr (w, .inr r) => (peer c r, .inr (w, .inr c))
def tokOf (ck : Dev nD × TK) : GSem nD τ sig × ℕ × Dev nD := (kcell (tokAt ck.1 ck.2), 0, ck.1)

theorem tokAt_injective (c : Dev nD) : Function.Injective (tokAt c) := by
  intro a b h
  rcases a with r | ⟨w, r | r⟩ <;> rcases b with r' | ⟨w', r' | r'⟩ <;> simp only [tokAt, Prod.mk.injEq, Sum.inr.injEq, Sum.inl.injEq, reduceCtorEq, and_false, and_true, true_and] at h
  · rw [peer_inj c r r' h]
  · obtain ⟨rfl, rfl⟩ := h; rfl
  · obtain ⟨h1, rfl⟩ := h; rw [peer_inj c r r' h1]

theorem tokOf_injective : Function.Injective (tokOf : Dev nD × TK → GSem nD τ sig × ℕ × Dev nD) := by
  rintro ⟨c, k⟩ ⟨c', k'⟩ h
  have h1 : c = c' := congrArg (fun x : GSem nD τ sig × ℕ × Dev nD => x.2.2) h
  subst h1
  have h2 : k = k' := tokAt_injective c (kcell_injective (congrArg (fun x : GSem nD τ sig × ℕ × Dev nD => x.1) h))
  rw [h2]

def tkX (w : Fin 3) : List TK := sendOrder.map (fun r => (.inr (w, .inl r) : TK)) ++ sendOrder.map (fun r => (.inr (w, .inr r) : TK))
def tkAll : List TK := peers.map (fun r => (.inl r : TK)) ++ (tkX 0 ++ (tkX 1 ++ tkX 2))
theorem tk_all : (Finset.univ : Finset TK) = tkAll.toFinset := by decide
theorem tk_nodup : tkAll.Nodup := by decide

def payX (c : Dev nD) (w : Fin 3) : sProp 𝕄 :=
  iprop((bigSepL sendOrder fun r => dutyTok ER (sndCell c w r) 0 c) ∗ bigSepL sendOrder fun r => dutyTok ER (rcvCell (peer c r) w c) 0 c)
def toks (c : Dev nD) : sProp 𝕄 :=
  iprop((bigSepL peers fun r => dutyTok ER (barCell (peer c r)) 0 c) ∗ payX c 0 ∗ payX c 1 ∗ payX c 2)

theorem toks_eq (c : Dev nD) : (bigSep Finset.univ fun k : TK => dutyTok ER (tokOf (c, k)).1 (tokOf (c, k)).2.1 (tokOf (c, k)).2.2 : sProp 𝕄) = toks c := by
  rw [bigSep_univ_eq_bigSepL tkAll tk_all tk_nodup]
  unfold tkAll tkX toks payX
  rw [bigSepL_append, bigSepL_append, bigSepL_append, bigSepL_append, bigSepL_append, bigSepL_append]
  rw [bigSepL_map, bigSepL_map, bigSepL_map, bigSepL_map, bigSepL_map, bigSepL_map, bigSepL_map]
  rfl

/-! ## Making the cells -/

def theCells : Finset (GSem nD τ sig) := Finset.univ.map ⟨kcell, kcell_injective⟩
def theToks : Finset (GSem nD τ sig × ℕ × Dev nD) := Finset.univ.map ⟨tokOf, tokOf_injective⟩

def u₀ : UU := (initOf (Pipeline.cells cfgs cellOf_inj) (Pipeline.launchToks cfgs cellOf_inj), (initOf theCells theToks, (1 : Counters)))

/-- What the launch gives device `c`. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

theorem fund : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : CK => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => toks_eq c
  iintro HX
  imod (Rounds.fund ER (Rd m) theCells theToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- Device `c`'s part once the cells' invariants stand: its places in its own cells, its tokens, the other semaphores. -/
def mine (c : Dev nD) : sProp 𝕄 := iprop((bigSep Finset.univ fun k : CK => atPos ER (kcell (c, k)) 0 ∅ 0) ∗ toks c ∗ lows c)
def G' (c : Dev nD) : sProp 𝕄 := iprop(∃ K, records m K ∗ mine c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => reached ER (kcell (c, k)) 0) ∗ mine c) := by
  unfold G mine
  simp only [bigSep_sep']
  iintro ⟨Hos, Hus, Hst, ⟨Hat, Hr⟩, Htok⟩
  ihave Hv := (sems_split (F := F) c) $$ [Hos Hus]
  · isplitl [Hos] <;> iassumption
  icases Hv with ⟨Hlow, Hv⟩
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok] <;> iassumption

theorem big_with {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => reached ER (kcell (c, k)) 0) ∗ mine c) : sProp 𝕄)
      ⊢ bigSep Finset.univ (G' m) := by
  rw [bigSep_sep', bigSep_sep', ← bigSep_univ_prod (fun ck : Dev nD × CK => iprop(∃ κ : ℕ, cellInv ER (Rd m) κ (kcell ck))),
    ← bigSep_univ_prod (fun ck : Dev nD × CK => (reached ER (kcell ck) 0 : sProp 𝕄))]
  iintro ⟨HI, #HR, HM⟩
  ihave HK := (BI.bigSep_exists_pi Finset.univ (fun (ck : Dev nD × CK) (κ : ℕ) => (cellInv ER (Rd m) κ (kcell ck) : sProp 𝕄))) $$ HI
  icases HK with ⟨%K, #HI⟩
  iapply (big_with (R := records m K) fun c _ => show _ ⊢ G' m c from by
    unfold G'; iintro ⟨#HR, HM⟩; iexists K; isplitr; · iexact HR
    iexact HM)
  isplitr
  · unfold records; isplitl; · iexact HI
    iexact HR
  · iexact HM

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credits -/

theorem tl_peers (f : Fin 7 → CellTallies nD τ sig Unit) : tl f peers = ∑ r, f r := by
  rw [Fin.sum_univ_seven]; simp only [tl, zero_add]; ac_rfl
theorem tl_sends (f : Fin 7 → CellTallies nD τ sig Unit) : tl f sendOrder = ∑ r, f r := by
  rw [Fin.sum_univ_seven]; simp only [tl, zero_add]; ac_rfl

/-- A sum over all pairs of devices, by the one and by the other. -/
theorem sum_pairs (H : Dev nD → Dev nD → CellTallies nD τ sig Unit) : ∑ c, ∑ r, H (peer c r) c = ∑ c, ∑ r, H c (peer c r) := by
  rw [← Fintype.sum_prod_type' (f := fun (c : Dev nD) (r : Fin 7) => H (peer c r) c), ← Fintype.sum_prod_type' (f := fun (c : Dev nD) (r : Fin 7) => H c (peer c r))]
  have hi : Function.Involutive (fun p : Dev nD × Fin 7 => (peer p.1 p.2, Fin.rev p.2)) := fun p => by
    show (peer (peer p.1 p.2) (Fin.rev p.2), Fin.rev (Fin.rev p.2)) = p
    rw [peer_rev, Fin.rev_rev]
  refine Fintype.sum_equiv hi.toPerm _ _ fun p => ?_
  show H (peer p.1 p.2) p.1 = H (peer p.1 p.2) (peer (peer p.1 p.2) (Fin.rev p.2))
  rw [peer_rev]

/-- What device `c` is owed. -/
def due (c : Dev nD) : CellTallies nD τ sig Unit :=
  (∑ r : Fin 7, tallyAt (rcvCell c 2 (peer c r)) () N) + (∑ r : Fin 7, tallyAt (rcvCell c 1 (peer c r)) () N) + (∑ r : Fin 7, tallyAt (rcvCell c 0 (peer c r)) () N) + ∑ r : Fin 7, tallyAt (barCell c) () 1

theorem sum_due : (∑ c, O₀ c) = ∑ c, due c := by
  unfold O₀ due owed4
  simp only [tl_peers, tl_sends, Finset.sum_add_distrib]
  rw [sum_pairs (fun d c => tallyAt (rcvCell d 2 c) () N), sum_pairs (fun d c => tallyAt (rcvCell d 1 c) () N), sum_pairs (fun d c => tallyAt (rcvCell d 0 c) () N),
    sum_pairs (fun d c => tallyAt (barCell d) () 1)]

theorem due_own (c : Dev nD) (g : GSem nD τ sig) (h : due c g ≠ 0) : g.1 = (c.tc : Thread nD τ) := by
  by_contra hn
  refine h ?_
  have z (s : SemLoc sig) (n : ℕ) : (tallyAt ((c : Thread nD τ), s) () n : CellTallies nD τ sig Unit) g = 0 :=
    Finsupp.ext fun u => by rw [tallyAt_ne_cell (fun e => hn (congrArg Prod.fst e))]
  unfold due
  simp only [Pi.add_apply, Finset.sum_apply, z, Finset.sum_const_zero, add_zero]

theorem cred_list (f : Fin 7 → CellTallies nD τ sig Unit) : ∀ l : List (Fin 7), (cred (tl f l) : sProp 𝕄) ⊢ bigSepL l fun r => cred (f r)
  | [] => by rw [bigSepL_nil]; iintro -; iempintro
  | r :: l => by
    rw [bigSepL_cons']
    show (cred (tl f l + f r) : sProp 𝕄) ⊢ _
    iintro H
    ihave H := (cred_add _ _).1 $$ H
    icases H with ⟨H1, H2⟩
    isplitl [H2]; · iexact H2
    iapply (cred_list f l); iexact H1

theorem seven_ones (g : GSem nD τ sig) : (∑ r : Fin 7, (tallyAt g () 1 : CellTallies nD τ sig Unit)) = tallyAt g () 7 := by
  rw [Finset.sum_const, Finset.card_univ, Fintype.card_fin]
  funext g'; refine Finsupp.ext fun u => ?_
  rw [Pi.smul_apply, Finsupp.smul_apply, tallyAt_apply, tallyAt_apply]
  split <;> simp

theorem creds (c : Dev nD) :
    (Pipeline.launchCred O₀ c : sProp 𝕄) ⊢ iprop(cred (tallyAt (barCell c) () 7) ∗ (bigSepL peers fun r => cred (tallyAt (rcvCell c 0 (peer c r)) () N))
      ∗ (bigSepL peers fun r => cred (tallyAt (rcvCell c 1 (peer c r)) () N)) ∗ bigSepL peers fun r => cred (tallyAt (rcvCell c 2 (peer c r)) () N)) := by
  rw [Pipeline.launchCred_of_sum O₀ due sum_due due_own c]
  unfold due
  rw [seven_ones, ← tl_peers, ← tl_peers, ← tl_peers]
  iintro H
  ihave H := (cred_add _ _).1 $$ H
  icases H with ⟨H, Hb⟩
  ihave H := (cred_add _ _).1 $$ H
  icases H with ⟨H, H0⟩
  ihave H := (cred_add _ _).1 $$ H
  icases H with ⟨H2, H1⟩
  isplitl [Hb]; · iexact Hb
  isplitl [H0]; · iapply (cred_list _ peers); iexact H0
  isplitl [H1]; · iapply (cred_list _ peers); iexact H1
  iapply (cred_list _ peers); iexact H2

end Cert.KernelIdeal.Ulysses
-- ==== Proof.Run.lean ====
/- The launch: from the program's start to its end on all devices. -/
module

public import proofs.«01_k».proof.Proof.Ghost
public import proofs.«01_k».proof.Proof.Gen.KernelIdeal.Points
public import Idealize.ShloMosaic.Lib.Pipeline.CollectiveSegs

@[expose] public section

set_option maxRecDepth 65536

noncomputable section

namespace Cert.KernelIdeal.Ulysses

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the pipeline carries -/

theorem own_whole (c : Dev nD) (b : Ref sig .tc) (X : Buf (Elt F) ((c : Thread nD τ).loc b)) :
    (own c (Memref.whole b) fullShare X : sProp 𝕄) = (((c : Thread nD τ).loc b) ↦{fullShare} X) := by
  have e : (own c (Memref.whole b) fullShare X : sProp 𝕄)
      = iprop(∃ f : Buf (Elt F) (((c : Dev nD) : Thread nD τ).loc b), ⌜f = X⌝ ∗ (((c : Thread nD τ).loc b) ↦{fullShare} f)) := by
    unfold own owns; simp only [Memref.view_whole, View.read_whole, View.set_whole]
  rw [e]
  have h1 : (iprop(∃ f : Buf (Elt F) (((c : Dev nD) : Thread nD τ).loc b), ⌜f = X⌝ ∗ (((c : Thread nD τ).loc b) ↦{fullShare} f)) : sProp 𝕄) ⊢ (((c : Thread nD τ).loc b) ↦{fullShare} X) := by
    iintro ⟨%f, %h, H⟩; subst h; iexact H
  have h2 : ((((c : Thread nD τ).loc b) ↦{fullShare} X) : sProp 𝕄) ⊢ iprop(∃ f : Buf (Elt F) (((c : Dev nD) : Thread nD τ).loc b), ⌜f = X⌝ ∗ (((c : Thread nD τ).loc b) ↦{fullShare} f)) := by
    iintro H; iexists X; isplitr; · ipureintro; rfl
    iexact H
  exact BI.Entails.antisymm h1 h2

/-- The arrays that are no window's, as launched. -/
abbrev rest (c : Dev nD) : sProp 𝕄 :=
  Pipeline.unscopedRest (Ix := Unit) (Name := ℕ) (U := UU) (Lvl := ℕ) spec0 c (fun b => m ((c : Thread nD τ).loc b))

theorem rest_eq (c : Dev nD) : (rest m c : sProp 𝕄) = arrs m c := by
  unfold rest; rw [unscopedRest0_eq]; unfold arrs; rw [own_whole, own_whole, own_whole, own_whole]

theorem any_whole (c : Dev nD) (b : Ref sig .tc) :
    (bufAny c (Memref.whole b) : sProp 𝕄) = iprop(∃ f : Buf (Elt F) ((c : Thread nD τ).loc b), ((c : Thread nD τ).loc b) ↦{fullShare} f) := by
  exact congrArg (fun Φ : Buf (Elt F) ((c : Thread nD τ).loc b) → sProp 𝕄 => iprop(∃ f, Φ f)) (funext fun X => own_whole c b X)

theorem scoped_eq (c : Dev nD) : (Pipeline.scopedRest (Ix := Unit) (Name := ℕ) (U := UU) (Lvl := ℕ) (Val := Elt F) spec0 c : sProp 𝕄) = bufs c := by
  rw [scopedRest0_eq]; simp only [← any_whole]; rfl

/-- What device `c` is owed, as credits. -/
def crs (c : Dev nD) : sProp 𝕄 :=
  iprop(cred (tallyAt (barCell c) () 7) ∗ (bigSepL peers fun r => cred (tallyAt (rcvCell c 0 (peer c r)) () N))
      ∗ (bigSepL peers fun r => cred (tallyAt (rcvCell c 1 (peer c r)) () N)) ∗ bigSepL peers fun r => cred (tallyAt (rcvCell c 2 (peer c r)) () N))

/-- What device `c` starts from, but for its buffers. -/
def start (c : Dev nD) : sProp 𝕄 := iprop((∃ K, know m K ∗ mine c) ∗ crs c ∗ rest m c)

def Φ₀ (c : Dev nD) : sProp 𝕄 := iprop(start m c ∗ bufs c)
def Φ₁ (c : Dev nD) : sProp 𝕄 := iprop(bufs c ∗ rest m c ∗ lows c ∗ semVal (barCell c) 0 ∗ xdone c 0 ∗ xdone c 1 ∗ xdone c 2)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => outv m
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body at its one point -/

theorem join3 (Φ Ψ : Fin 7 → sProp (MT nD τ sig Unit (Elt F) ℕ UU ℕ)) (l : List (Fin 7)) : iprop(bigSepL l Φ ∗ bigSepL l Ψ) ⊢ bigSepL l (fun a => iprop(Φ a ∗ Ψ a)) := sepL_join Φ Ψ l

theorem xchg_of (c : Dev nD) (w : Fin 3) :
    iprop(payX c w ∗ overX c w (fun k => atPos ER (kcell (c, k)) 0 ∅ 0) ∗ bigSepL peers fun r => cred (tallyAt (rcvCell c w (peer c r)) () N)) ⊢ (xchg c w : sProp 𝕄) := by
  unfold payX overX xchg
  iintro ⟨⟨T1, T2⟩, ⟨P1, P2, P3⟩, C⟩
  isplitl [T1 T2]
  · iapply (join3 (F := F) (fun r => dutyTok ER (sndCell c w r) 0 c) (fun r => dutyTok ER (rcvCell (peer c r) w c) 0 c) sendOrder)
    isplitl [T1] <;> iassumption
  isplitl [P1]; · iexact P1
  isplitl [C P2]
  · iapply (join3 (F := F) (fun r => cred (tallyAt (rcvCell c w (peer c r)) () N)) (fun r => atPos ER (rcvCell c w (peer c r)) 0 ∅ 0) peers)
    isplitl [C]; · iexact C
    iexact P2
  iexact P3

theorem start_out (c : Dev nD) :
    iprop(mine c ∗ crs c ∗ rest m c) ⊢ (iprop(arrs m c ∗ lows c ∗ barRes c ∗ xchg c 0 ∗ xchg c 1 ∗ xchg c 2) : sProp 𝕄) := by
  unfold mine toks crs barRes
  rw [rest_eq, ck_split c (fun k : CK => (atPos ER (kcell (c, k)) 0 ∅ 0 : sProp 𝕄))]
  iintro ⟨⟨⟨Pb, P0, P1, P2⟩, ⟨Tb, T0, T1, T2⟩, HL⟩, ⟨Cb, C0, C1, C2⟩, HA⟩
  isplitl [HA]; · iexact HA
  isplitl [HL]; · iexact HL
  isplitl [Pb Tb Cb]
  · isplitl [Cb]; · iexact Cb
    isplitl [Pb]; · iexact Pb
    iexact Tb
  isplitl [P0 T0 C0]
  · iapply (xchg_of (F := F) c 0)
    isplitl [T0]; · iexact T0
    isplitl [P0]; · iexact P0
    iexact C0
  isplitl [P1 T1 C1]
  · iapply (xchg_of (F := F) c 1)
    isplitl [T1]; · iexact T1
    isplitl [P1]; · iexact P1
    iexact C1
  iapply (xchg_of (F := F) c 2)
  isplitl [T2]; · iexact T2
  isplitl [P2]; · iexact P2
  iexact C2

abbrev xS : Memref sig .tc .vmem S1x256x1024 .f32 := Memref.whole cc0_stg0_0
abbrev oS : Memref sig .tc .vmem S1x256x1024 .f32 := Memref.whole cc0_stg1_0

/-- The pipeline's hand-over before the body, and after it. -/
def atStart (c : Dev nD) : sProp 𝕄 :=
  iprop(Φ₀ m c ∗ (dats m ρ 0 c).owesAt () (t0_0 : Fin cfg0.N).castSucc
    ∗ (∃ d, own c xS fullShare ((dats m ρ 0 c).before (0 : Fin 2) t0_0 d)) ∗ (∃ d, own c oS fullShare ((dats m ρ 0 c).before (1 : Fin 2) t0_0 d)))
def atEnd (c : Dev nD) : sProp 𝕄 :=
  iprop(Φ₁ m c ∗ (dats m ρ 0 c).owesAt () (t0_0 : Fin cfg0.N).succ ∗ own c xS fullShare (xv m c) ∗ own c oS fullShare (outv m))

theorem before_x (c : Dev nD) (d) : (dats m ρ 0 c).before (0 : Fin 2) t0_0 d = xv m c := by
  unfold Dat.before; rw [if_pos (fetch0_0 t0_0)]; rfl

theorem body_run (c : Dev nD) : atStart m ρ c ⊢ wpc c (prog (F := F) xS oS) (fun _ => atEnd m ρ c) := by
  unfold atStart Φ₀ start
  simp only [before_x]
  iintro ⟨⟨⟨⟨%K, #HK, HM⟩, HC, HR⟩, HB⟩, HO, ⟨%d, Hx⟩, Ho⟩
  unfold Dat.owesAt Pipeline.owesWithin
  icases HO with ⟨%W, %hW, HO⟩
  rw [show (dats m ρ 0 c).owed (t0_0 : Fin cfg0.N).castSucc = O₀ c from rfl]
  iapply (body_spec m K c xS oS fun _ => atEnd m ρ c)
  isplitr; · iexact HK
  isplitl
  · unfold bodyPre
    isplitl [HO]; · iexists W; iexact HO
    isplitl [Hx]; · iexact Hx
    isplitl [Ho]
    · icases Ho with ⟨%d', Ho⟩
      unfold bufAny; iexists _; iexact Ho
    isplitl [HB]; · iexact HB
    iapply (start_out m c)
    isplitl [HM]; · iexact HM
    isplitl [HC]; · iexact HC
    iexact HR
  · unfold bodyPost atEnd Φ₁
    iintro ⟨⟨%W', HO⟩, Hx, Ho, HB, HA, HL, Hb, H0, H1, H2⟩
    isplitl [HB HA HL Hb H0 H1 H2]
    · isplitl [HB]; · iexact HB
      isplitl [HA]; · rw [rest_eq]; iexact HA
      isplitl [HL]; · iexact HL
      isplitl [Hb]; · iexact Hb
      isplitl [H0]; · iexact H0
      isplitl [H1]; · iexact H1
      iexact H2
    isplitl [HO]
    · unfold Dat.owesAt Pipeline.owesWithin
      rw [show (dats m ρ 0 c).owed (t0_0 : Fin cfg0.N).succ = 0 from rfl]
      iexists W'
      isplitr; · ipureintro; exact fun _ _ => Or.inl trivial
      iexact HO
    isplitl [Hx]; · iexact Hx
    iexact Ho

theorem body_obligation (c : Dev nD) : BodyObligation (dats (F := F) m ρ 0 c) (defs₀ (F := F)) 𝒱₀ () Set.univ := fun t => by
  rw [show t = t0_0 from fin_N0 t]
  rw [bigSep_W0, bigSep_W0]
  have e := body_eq (F := F) xS (hstage0_0 0) oS (hstage0_1 0)
  have h := body_run (F := F) m ρ c
  rw [← e] at h
  exact h

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  iintro ⟨HA, #Hlev, Hcr, -, HG⟩
  ihave Hc := (creds (F := F) c) $$ Hcr
  unfold G'
  icases HG with ⟨%K, #HR, HM⟩
  imodintro
  unfold start crs
  isplitl
  · isplitl [HM]
    · iexists K
      isplitr
      · unfold know; isplitr; · iexact HR
        iexact Hlev
      iexact HM
    isplitl [Hc]; · iexact Hc
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (Entails.of_eq (scoped_eq (F := F) c)); iexact Hr

theorem phi1_exit (c : Dev nD) :
    (dats m ρ 0 c).Φ (Fin.last cfg0.N) ⊢ iprop((unscopedSems0 c ∗ rest m c) ∗ Pipeline.ownSems0 osem c ∗ Pipeline.scopedRest cfg0.spec c) := by
  rw [show (dats m ρ 0 c).Φ (Fin.last cfg0.N) = Φ₁ m c from rfl, ownSems0_eq, unscopedSems0_eq]
  unfold Φ₁ overX xdone
  iintro ⟨HB, HA, HL, Hb, H0, H1, H2⟩
  isplitl [HA Hb]
  · isplitl [Hb]; · iexact Hb
    iexact HA
  isplitl [HL H0 H1 H2]
  · isplitl [HL]; · iexact HL
    isplitl [H0]; · iexact H0
    isplitl [H1]; · iexact H1
    iexact H2
  iapply (Entails.of_eq (scoped_eq (F := F) c).symm); iexact HB

theorem mayWait_stage (c : Dev nD) (q : DmaSem sig) (hq : q.val < 20) (O : CellTallies nD τ sig Unit) (hO : O = O₀ c ∨ O = 0) :
    (levAts L lv : sProp 𝕄) ⊢ MayWait (c : Thread nD τ) (.dma q) () O := by
  rcases hO with rfl | rfl
  · exact mayWait_low c q hq peers sendOrder sendOrder sendOrder
  · have h := mayWait_low (F := F) c q hq [] [] [] []
    simpa only [owed4, tl, add_zero] using h

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

/-- The buffers that no window stages and the region does not scope. -/
abbrev restRefs : Finset (Ref sig .tc) := (Finset.univ.filter fun b : Ref sig .tc => ¬ b.isScoped) \ Finset.univ.image (Pipeline.arrRef spec0)

def atExit (c : Dev nD) (s : MemSt nD τ sig (Elt F)) : Prop :=
  (∀ b ∈ restRefs, s.mem ((c.tc : Thread nD τ).loc b) = m ((c.tc : Thread nD τ).loc b))
    ∧ ∀ sm : SemLoc sig, sm.isScoped .tc = false → s.sem ((c.tc : Thread nD τ), sm) = 0

theorem exit_read (c : Dev nD) (s' : Phys nD τ sig (Elt F)) :
    iprop((unscopedSems0 c ∗ rest m c) ∗ emp ∗ SI s') ⊢ (|={Set.univ}=> iprop(⌜atExit m c s'.mem⌝ ∗ SI s') : sProp 𝕄) := by
  iintro ⟨⟨Hu, HA⟩, -, HSI⟩
  ihave H := (show iprop(rest m c ∗ SI s') ⊢ (iprop(⌜∀ b ∈ restRefs, s'.mem.mem ((c.tc : Thread nD τ).loc b) = m ((c.tc : Thread nD τ).loc b)⌝ ∗ SI s') : sProp 𝕄) from
    pointsTo_read_all restRefs (fun b => (c.tc : Thread nD τ).loc b) (fun b => m ((c.tc : Thread nD τ).loc b)) s') $$ [HA HSI]
  · isplitl [HA] <;> iassumption
  icases H with ⟨%hm, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hm, hs⟩
  iexact HSI

/-- From any memory with all counters zero every execution ends; then the windows' arrays hold what the pipeline leaves in
    them, every other array what it held, and all counters are zero. -/
theorem run_all : θ_run defs (onTc (τ := τ) (main (F := F))) (s₀ m ρ)
    (fun r => (∀ c : Dev nD, (∀ w : Fin cfg0.W, r.2.mem ((cfg0.win w).arr.view.loc (c : Thread nD τ)) = finalA m ρ c w) ∧ atExit m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (show BI.own (embR (initOf theCells theToks, (1 : Counters))) ⊢ (|==> bigSep Finset.univ (G m) : sProp 𝕄) from fund m) $$ HX with HG
      imodintro
      isplitl [HP] <;> iassumption)
    (hglob := glob m)
    (hA := fun _ _ => rfl) (hpf := fun _ k => k.elim0)
    (X := start m) (Y := fun c => iprop(unscopedSems0 c ∗ rest m c)) (Z := fun _ => iprop(emp))
    (hX := start_intro m ρ) (hin := phi0_intro m ρ) (hout := phi1_exit m ρ)
    (QY := atExit m) (hY := exit_read m)
    (hQ := fun _ h hs => ⟨fun c => ⟨fun w => (h c).1 w, (h c).2.2⟩, sem_eq_zero hs fun c => (h c).2.2.2⟩)

theorem finalA_x (c : Dev nD) : finalA m ρ c (0 : Fin 2) = m ((c : Thread nD τ).loc main_arg0) :=
  (dats (F := F) m ρ 0 c).arrAt_in (0 : Fin 2) rfl _

theorem finalA_o (c : Dev nD) : (win0_1.blk (0 : Fin 1)).view.read (Elt F) (finalA m ρ c (1 : Fin 2)) = outv m := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The run: on every device the arguments are unchanged and the result is the same array `outv m`; all counters zero. -/
theorem run_main : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ (win0_1.blk (0 : Fin 1)).view.read (Elt F) (r.2.mem ((c.tc : Thread nD τ).loc main_v1)) = outv m) ∧ r.2.sem = fun _ => 0) :=
  (θ_run defs _ _).mono (fun r h => ⟨fun c =>
    ⟨((h.1 c).1 (0 : Fin 2)).trans (finalA_x m ρ c), (h.1 c).2.1 main_arg1 (by decide), (h.1 c).2.1 main_arg2 (by decide),
      (h.1 c).2.1 main_arg3 (by decide), (h.1 c).2.1 main_arg4 (by decide),
      (congrArg ((win0_1.blk (0 : Fin 1)).view.read (Elt F)) ((h.1 c).1 (1 : Fin 2))).trans (finalA_o m ρ c)⟩, h.2⟩) (run_all m ρ)

end Cert.KernelIdeal.Ulysses
-- ==== Proof.Frames.lean ====
/- The frames: each program runs to an end from any memory, its arguments unchanged and its counters at zero. -/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

set_option maxRecDepth 65536

noncomputable section

namespace Cert.Proof

open Idealize.ShloMosaic Idealize.SL.Sem

/-- What the frames say, for any float values. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => ⟨(h.1 c).1, (h.1 c).2.1, (h.1 c).2.2.1, (h.1 c).2.2.2.1, (h.1 c).2.2.2.2.1⟩, h.2⟩)
    (Cert.KernelIdeal.Ulysses.run_main (F := F) m ρ)

theorem frame_ideal : Cert.quiescent_KernelIdeal := fun m ρ _ => frame_any (F := Ideal) m ρ
theorem frame_ideal_pre [Cert.Pre_finite_inputs_KernelIdeal.Facts] : Cert.quiescent_KernelIdeal_pre_finite_inputs_KernelIdeal := fun m ρ _ => frame_any (F := Ideal) m ρ

/-- The two programs have the same bodies. -/
theorem bodies_eq : Cert.Kernel.defs₀ (F := Bits) = Cert.KernelIdeal.defs₀ (F := Bits) := by
  unfold Cert.Kernel.defs₀ Cert.KernelIdeal.defs₀
  refine congrArg _ (funext fun l => funext fun a => ?_)
  obtain ⟨l, h⟩ := l
  match l, h, a with
  | 0, h, (t, s) => rfl
theorem defs_eq : Cert.Kernel.defs (F := Bits) = Cert.KernelIdeal.defs (F := Bits) :=
  congrArg (Pipeline.defs (Cert.Kernel.pcfgs (F := Bits))) bodies_eq

theorem frame_kernel : Cert.quiescent_Kernel := fun m ρ _ => by
  rw [defs_eq]; exact frame_any (F := Bits) m ρ

/-- The reference has no counters. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)
theorem frame_reference_pre [Cert.Pre_finite_inputs_ReferenceIdeal.Facts] : Cert.quiescent_ReferenceIdeal_pre_finite_inputs_ReferenceIdeal := fun m ρ _ =>
  frame_reference m ρ trivial

end Cert.Proof

end
-- ==== Proof.ValPay.lean ====
/- The kernel's payloads over the extended reals, read at an index. -/
module

public import proofs.«01_k».proof.Proof.Prog
public import Idealize.ShloMosaic.Lib.Pointwise

@[expose] public section

set_option maxRecDepth 16384

noncomputable section

namespace Cert.KernelIdeal.Ulysses

open Cert.KernelIdeal Cert.KernelIdeal.Gen
open Idealize.ShloMosaic

/-- The scale of the scores. -/
abbrev sc : EReal := Ideal.ofBits .f32 0x3DB504F3#32

/-- The scaled queries at a row and a column. -/
theorem pay1_at (x : Vec Ideal S1x256x1024 .f32) (w : Vec Ideal S1024x1024 .f32) (i : Fin 256) (n : Fin 1024) :
    k0_pay1 (F := Ideal) x w (ix2 i n) = (∑ k : Fin 1024, x (ix3 0 i k) * w (ix2 k n)) * sc := by
  pointwise [k0_pay1]

/-- The position of the `j`-th key that query block `q` reads. -/
def keyAt (q : Fin 4) (j : Fin 1024) : Fin 4096 := ⟨j.val / 64 * 256 + q.val * 64 + j.val % 64, by omega⟩

theorem selKV_at (q : Fin 4) (k : Vec Ideal S1x4096x128 .f32) (j : Fin 1024) (d : Fin 128) :
    selKV (F := Ideal) q k (ix2 j d) = k (ix3 0 (keyAt q j) d) := by
  pointwise [selKV, k0_pay2]
  rfl

theorem expScores_at (q : Fin 4) (k : Vec Ideal S1x4096x128 .f32) (x : Vec Ideal S64x128 .bf16) (i : Fin 64) (j : Fin 1024) :
    expScores (F := Ideal) q k x (ix2 i j) = Ideal.exp (∑ e : Fin 128, x (ix2 i e) * k (ix3 0 (keyAt q j) e)) := by
  pointwise [expScores, selKV_at]

theorem attVal_at (q : Fin 4) (k v : Vec Ideal S1x4096x128 .f32) (x : Vec Ideal S64x128 .bf16) (i : Fin 64) (d : Fin 128) :
    attVal (F := Ideal) q k v x (ix2 i d)
      = (∑ j : Fin 1024, expScores (F := Ideal) q k x (ix2 i j) * v (ix3 0 (keyAt q j) d))
        * Ideal.div 1 (∑ j : Fin 1024, expScores (F := Ideal) q k x (ix2 i j)) := by
  pointwise [attVal, selKV_at]

theorem pay40_at (x : Vec Ideal S256x512 .bf16) (w : Vec Ideal S512x1024 .f32) (s : Fin 8) (r : Fin 32) (n : Fin 1024) :
    k0_pay40 (F := Ideal) x w (ix3 s r n) = ∑ j : Fin 512, x (ix2 ⟨s.val * 32 + r.val, by omega⟩ j) * w (ix2 j n) := by
  pointwise [k0_pay40]

theorem pay84_at (x y : Vec Ideal S1x32x1024 .bf16) (r : Fin 32) (n : Fin 1024) :
    k0_pay84 (F := Ideal) x y (ix2 r n) = x (ix3 0 r n) + y (ix3 0 r n) := by
  pointwise [k0_pay84]

theorem pay85_at (x : Vec Ideal S32x1024 .f32) (y : Vec Ideal S1x32x1024 .bf16) (r : Fin 32) (n : Fin 1024) :
    k0_pay85 (F := Ideal) x y (ix2 r n) = x (ix2 r n) + y (ix3 0 r n) := by
  pointwise [k0_pay85]

theorem pay102_at (x : Vec Ideal S32x1024 .f32) (r : Fin 32) (n : Fin 1024) :
    k0_pay102 (F := Ideal) x (ix3 0 r n) = x (ix2 r n) := by
  pointwise [k0_pay102]

theorem pay103_at (x : Vec Ideal S8x32x1024 .bf16) (i : Fin 256) (n : Fin 1024) :
    k0_pay103 (F := Ideal) x (ix3 0 i n) = x (ix3 ⟨i.val / 32, by omega⟩ ⟨i.val % 32, by omega⟩ n) := by
  pointwise [k0_pay103]

end Cert.KernelIdeal.Ulysses
-- ==== Proof.ValDev.lean ====
/- The devices' values over the extended reals, read at an index. -/
module

public import proofs.«01_k».proof.Proof.Protocol
public import proofs.«01_k».proof.Proof.ValPay

@[expose] public section

set_option maxRecDepth 16384

noncomputable section

namespace Cert.KernelIdeal.Ulysses

open Cert.KernelIdeal Cert.KernelIdeal.Gen
open Idealize.ShloMosaic
open Idealize.ShloMosaic.TcCoe

variable (m : (ℓ : Loc nD τ sig) → Buf (Elt Ideal) ℓ)

theorem xv_at (c : Dev nD) (i : Fin 256) (k : Fin 1024) :
    xv m c (ix3 0 i k) = (m ((c.tc : Thread nD τ).loc main_arg0) : Vec Ideal S1x256x1024 .f32) (ix3 0 i k) := by
  refine congrArg (m ((c.tc : Thread nD τ).loc main_arg0) : Vec Ideal S1x256x1024 .f32) ?_
  funext a
  apply Fin.ext
  fin_cases a
  · rfl
  · exact (Nat.zero_add _).trans (Nat.one_mul _)
  · exact (Nat.zero_add _).trans (Nat.one_mul _)

/-- A column of device `c`'s block in the whole matrix. -/
def colAt (c : Fin 8) (n : Fin 1024) : Fin 8192 := ⟨c.val * 1024 + n.val, by omega⟩

theorem wqv_at (c : Dev nD) (k : Fin 1024) (n : Fin 1024) :
    wqv m c (ix2 k n) = (m ((c.tc : Thread nD τ).loc main_arg1) : Vec Ideal S1024x8192 .f32) (ix2 k (colAt c n)) := by
  refine congrArg (m ((c.tc : Thread nD τ).loc main_arg1) : Vec Ideal S1024x8192 .f32) ?_
  have h0 : k0_off1 c 0 = 0 := by revert c; decide
  have h1 : k0_off1 c 1 = c.val * 1024 := by revert c; decide
  funext a
  apply Fin.ext
  fin_cases a
  · exact (Rect.emb_apply _ _ _).trans (by show k0_off1 c 0 + 1 * k.val = k.val; omega)
  · exact (Rect.emb_apply _ _ _).trans (by show k0_off1 c 1 + 1 * n.val = c.val * 1024 + n.val; omega)

theorem wov_at (c : Dev nD) (k : Fin 1024) (n : Fin 1024) :
    wov m c (ix2 k n) = (m ((c.tc : Thread nD τ).loc main_arg4) : Vec Ideal S8192x1024 .f32) (ix2 (colAt c k) n) := by
  refine congrArg (m ((c.tc : Thread nD τ).loc main_arg4) : Vec Ideal S8192x1024 .f32) ?_
  have h0 : k0_off2 c 0 = c.val * 1024 := by revert c; decide
  have h1 : k0_off2 c 1 = 0 := by revert c; decide
  funext a
  apply Fin.ext
  fin_cases a
  · exact (Rect.emb_apply _ _ _).trans (by show k0_off2 c 0 + 1 * k.val = c.val * 1024 + k.val; omega)
  · exact (Rect.emb_apply _ _ _).trans (by show k0_off2 c 1 + 1 * n.val = n.val; omega)

/-- Where head `h`'s view reads its array. -/
theorem kv_place (h : Fin 8) (j : Fin 4096) (d : Fin 128) (f : S1x4096x8x128.Idx → EReal) (g : S4096x128.Idx → EReal)
    (hg : ∀ x, g x = f ((Rect.unit (s := S1x4096x8x128) ![0, 0, h.val, 0] S1x4096x1x128.size (kvInb h)).emb
      (Shape.reshapeEquiv (squeezes_S1x4096x1x128_S4096x128).numel_eq x))) :
    unsq (F := Ideal) g (ix3 0 j d) = f (ix4 0 j h d) := by
  unfold unsq
  rw [Shape.reshapeEquiv_symm]
  pointwise
  rw [hg]
  pointwise
  refine congrArg f ?_
  funext a
  apply Fin.ext
  fin_cases a
  · rfl
  · exact (Nat.zero_add _).trans (Nat.one_mul _)
  · show h.val + 1 * 0 = h.val
    omega
  · exact (Nat.zero_add _).trans (Nat.one_mul _)

theorem kv_at (c : Dev nD) (h : Fin 8) (j : Fin 4096) (d : Fin 128) :
    unsq (kv2 m c h) (ix3 0 j d) = (m ((c.tc : Thread nD τ).loc main_arg2) : Vec Ideal S1x4096x8x128 .f32) (ix4 0 j h d) :=
  kv_place h j d (m ((c.tc : Thread nD τ).loc main_arg2)) _ fun _ => rfl

theorem vv_at (c : Dev nD) (h : Fin 8) (j : Fin 4096) (d : Fin 128) :
    unsq (vv2 m c h) (ix3 0 j d) = (m ((c.tc : Thread nD τ).loc main_arg3) : Vec Ideal S1x4096x8x128 .f32) (ix4 0 j h d) :=
  kv_place h j d (m ((c.tc : Thread nD τ).loc main_arg3)) _ fun _ => rfl

/-- One query block's row in the whole: the queries as the attention loads them. -/
theorem blk_at (c : Dev nD) (q : Fin 4) (h : Fin 8) (i : Fin 64) (e : Fin 128) :
    Qv m c ((blkR q h).emb (ix2 i e)) = Qv m c (ix2 ⟨q.val * 64 + i.val, by omega⟩ ⟨h.val * 128 + e.val, by omega⟩) := by
  refine congrArg (Qv m c) ?_
  funext a
  apply Fin.ext
  fin_cases a
  · show 64 * q.val + 1 * i.val = q.val * 64 + i.val
    omega
  · show 128 * h.val + 1 * e.val = h.val * 128 + e.val
    omega

/-- The attention at a row and a column, through the block that holds them. -/
theorem ctxv_at (c : Dev nD) (i : Fin 256) (n : Fin 1024) :
    ctxv m c (ix2 i n) = ctxBlk m c ⟨n.val / 128, by omega⟩ ⟨i.val / 64, by omega⟩ (ix2 ⟨i.val % 64, by omega⟩ ⟨n.val % 128, by omega⟩) := by
  unfold ctxv
  have h1 : (⟨n.val / 128 % 8, Nat.mod_lt _ (by decide)⟩ : Fin 8) = ⟨n.val / 128, by omega⟩ := Fin.ext (Nat.mod_eq_of_lt (by omega))
  have h2 : (⟨i.val / 64 % 4, Nat.mod_lt _ (by decide)⟩ : Fin 4) = ⟨i.val / 64, by omega⟩ := Fin.ext (Nat.mod_eq_of_lt (by omega))
  show ctxBlk m c ⟨n.val / 128 % 8, _⟩ ⟨i.val / 64 % 4, _⟩ _ = _
  rw [h1, h2]
  refine congrArg (ctxBlk m c _ _) ?_
  funext a
  apply Fin.ext
  fin_cases a <;> rfl

theorem part_at (c : Dev nD) (b : Fin 2) (s : Fin 8) (r : Fin 32) (n : Fin 1024) :
    partAt m c b s (ix3 0 r n) = ∑ j : Fin 512, ctxv m c (ix2 ⟨s.val * 32 + r.val, by omega⟩ ⟨b.val * 512 + j.val, by omega⟩)
      * wov m c (ix2 ⟨b.val * 512 + j.val, by omega⟩ n) := by
  unfold partAt part
  have e : (slotR s).emb (ix3 0 r n) = ix3 s r n := by
    funext a
    apply Fin.ext
    fin_cases a
    · show s.val + 1 * 0 = s.val
      omega
    · exact (Nat.zero_add _).trans (Nat.one_mul _)
    · exact (Nat.zero_add _).trans (Nat.one_mul _)
  rw [e, pay40_at]
  refine Finset.sum_congr rfl fun j _ => ?_
  have e1 : (colR b).emb (ix2 ⟨s.val * 32 + r.val, by omega⟩ j) = ix2 (n0 := 256) (n1 := 1024) ⟨s.val * 32 + r.val, by omega⟩ ⟨b.val * 512 + j.val, by omega⟩ := by
    funext a
    apply Fin.ext
    fin_cases a
    · exact (Nat.zero_add _).trans (Nat.one_mul _)
    · show 512 * b.val + 1 * j.val = b.val * 512 + j.val
      omega
  have e2 : (rowR b).emb (ix2 j n) = ix2 (n0 := 1024) (n1 := 1024) ⟨b.val * 512 + j.val, by omega⟩ n := by
    funext a
    apply Fin.ext
    fin_cases a
    · show 512 * b.val + 1 * j.val = b.val * 512 + j.val
      omega
    · exact (Nat.zero_add _).trans (Nat.one_mul _)
  rw [e1, e2]

/-- A sum over the devices: the device itself, then its peers. -/
theorem sum_dev {M : Type} [AddCommMonoid M] (f : Dev nD → M) (c : Dev nD) :
    f c + (f (peer c 0) + (f (peer c 1) + (f (peer c 2) + (f (peer c 3) + (f (peer c 4) + (f (peer c 5) + f (peer c 6))))))) = ∑ d : Fin 8, f d := by
  have hb : ∀ c : Dev nD, Function.Bijective (fun r : Fin 8 => (⟨(c.val + r.val) % 8, Nat.mod_lt _ (by decide)⟩ : Fin 8)) := by decide
  have h0 : ∀ c : Dev nD, (⟨(c.val + (0 : Fin 8).val) % 8, Nat.mod_lt _ (by decide)⟩ : Fin 8) = c := by decide
  rw [← (hb c).sum_comp f, Fin.sum_univ_eight, h0]
  simp only [add_assoc]
  rfl

/-- The sum of a row over the devices and the two halves. -/
theorem red2_at (c : Dev nD) (r : Fin 32) (n : Fin 1024) :
    red2 m c (ix2 r n) = ∑ d : Fin 8, (partAt m d 0 c (ix3 0 r n) + partAt m d 1 c (ix3 0 r n)) := by
  rw [← sum_dev (fun d => partAt m d 0 c (ix3 0 r n) + partAt m d 1 c (ix3 0 r n)) c]
  simp only [red2, red1, red0, peers, List.foldl, addPeer, pay85_at, pay84_at]
  ac_rfl

theorem outv_at (i : Fin 256) (n : Fin 1024) :
    outv m (ix3 0 i n) = ∑ d : Fin 8, ∑ b : Fin 2, ∑ j : Fin 512, ctxv m d (ix2 i ⟨b.val * 512 + j.val, by omega⟩)
      * wov m d (ix2 ⟨b.val * 512 + j.val, by omega⟩ n) := by
  unfold outv
  rw [pay103_at]
  have hi : (⟨i.val / 32 % 8, Nat.mod_lt _ (by decide)⟩ : Fin 8) = ⟨i.val / 32, by omega⟩ := Fin.ext (Nat.mod_eq_of_lt (show i.val / 32 < 8 by omega))
  have hg : gAll m (ix3 ⟨i.val / 32, by omega⟩ ⟨i.val % 32, by omega⟩ n) = gv m (⟨i.val / 32, by omega⟩ : Fin 8) (ix3 0 ⟨i.val % 32, by omega⟩ n) := by
    unfold gAll
    show gv m ⟨i.val / 32 % 8, _⟩ _ = _
    rw [hi]
    refine congrArg (gv m _) ?_
    funext a
    apply Fin.ext
    fin_cases a
    · exact Nat.mod_one _
    · show i.val % 32 % 32 = i.val % 32
      omega
    · show n.val % 1024 = n.val
      omega
  rw [hg]
  unfold gv
  rw [pay102_at, red2_at]
  refine Finset.sum_congr rfl fun d _ => ?_
  rw [Fin.sum_univ_two, part_at, part_at]
  have hr : (⟨i.val / 32 * 32 + i.val % 32, by omega⟩ : Fin 256) = i := Fin.ext (by show i.val / 32 * 32 + i.val % 32 = i.val; omega)
  simp only [hr]

end Cert.KernelIdeal.Ulysses
-- ==== Proof.RefMask.lean ====
/- Which keys a query reads, in the reference. -/
module

public import proofs.«01_k».proof.Proof.Gen.ReferenceIdeal.Run
public import Idealize.ShloMosaic.Lib.Pointwise

@[expose] public section

set_option maxRecDepth 16384

noncomputable section

namespace Cert.ReferenceIdeal.Attn

open Cert.ReferenceIdeal Cert.ReferenceIdeal.Gen
open Idealize.ShloMosaic

/-- The block of 64 that each query lies in, as the floor division prints. -/
def fdQ : IVec S256 32 :=
  (select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32)))))

/-- The block of 64 that each key lies in. -/
def fdK : IVec S4096 32 :=
  (select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32)))))

/-- The divisor four, as the remainder prints it. -/
def four : IVec S_ 32 := (select (cmpi .eq (id (constantI S_ 32 4#32)) (constantI S_ 32 0#32)) (constantI S_ 32 1#32) (id (constantI S_ 32 4#32)))
def colQ : IVec S256x1 32 := (broadcastInDim S256x1 ![0] bcast_S256_S256x1_0 fdQ)
def rowK : IVec S1x4096 32 := (broadcastInDim S1x4096 ![1] bcast_S4096_S1x4096_1 fdK)
def fourK : IVec S1x4096 32 := (broadcastInDim S1x4096 ![] bcast_S_S1x4096 four)
def fourQ : IVec S256x1 32 := (broadcastInDim S256x1 ![] bcast_S_S256x1 four)

/-- The key block's remainder by four. -/
def remK : IVec S1x4096 32 :=
  (select (andi (cmpi .ne (cmpi .slt (Host.remsi rowK fourK) (broadcastInDim S1x4096 ![] bcast_S_S1x4096 (constantI S_ 32 0#32))) (broadcastInDim S1x4096 ![] bcast_S_S1x4096 (cmpi .slt four (constantI S_ 32 0#32)))) (cmpi .ne (Host.remsi rowK fourK) (broadcastInDim S1x4096 ![] bcast_S_S1x4096 (constantI S_ 32 0#32)))) (addi (Host.remsi rowK fourK) fourK) (Host.remsi rowK fourK))

/-- The query block's remainder by four. -/
def remQ : IVec S256x1 32 :=
  (select (andi (cmpi .ne (cmpi .slt (Host.remsi colQ fourQ) (broadcastInDim S256x1 ![] bcast_S_S256x1 (constantI S_ 32 0#32))) (broadcastInDim S256x1 ![] bcast_S_S256x1 (cmpi .slt four (constantI S_ 32 0#32)))) (cmpi .ne (Host.remsi colQ fourQ) (broadcastInDim S256x1 ![] bcast_S_S256x1 (constantI S_ 32 0#32)))) (addi (Host.remsi colQ fourQ) fourQ) (Host.remsi colQ fourQ))

/-- Which keys a query reads. -/
def maskT : IVec S256x4096 1 :=
  (ori (cmpi .eq (broadcastInDim S256x4096 ![0, 1] bcast_S256x1_S256x4096_0_1 colQ) (broadcastInDim S256x4096 ![0, 1] bcast_S1x4096_S256x4096_0_1 rowK)) (cmpi .eq (broadcastInDim S256x4096 ![0, 1] bcast_S1x4096_S256x4096_0_1 remK) (broadcastInDim S256x4096 ![0, 1] bcast_S256x1_S256x4096_0_1 remQ)))

theorem fdQ_at (i : Fin 256) : fdQ (ix1 i) = BitVec.ofNat 32 (i.val / 64) := by
  pointwise [fdQ]
  revert i
  decide +kernel

theorem fdK_at (k : Fin 4096) : fdK (ix1 k) = BitVec.ofNat 32 (k.val / 64) := by
  pointwise [fdK]
  revert k
  decide +kernel

theorem remK_at (k : Fin 4096) : remK (ix2 0 k) = BitVec.ofNat 32 (k.val / 64 % 4) := by
  pointwise [remK, rowK, fourK, four, fdK_at]
  revert k
  decide +kernel

theorem remQ_at (i : Fin 256) : remQ (ix2 i 0) = BitVec.ofNat 32 (i.val / 64 % 4) := by
  pointwise [remQ, colQ, fourQ, four, fdQ_at]
  revert i
  decide +kernel

/-- The mask's bit, on the blocks' numbers. -/
theorem bit_at : ∀ (a : Fin 4) (b : Fin 64),
    IntOp.ori (IntOp.cmpi .eq (BitVec.ofNat 32 a.val) (BitVec.ofNat 32 b.val))
      (IntOp.cmpi .eq (BitVec.ofNat 32 (b.val % 4)) (BitVec.ofNat 32 (a.val % 4))) = BitVec.ofBool (decide (b.val % 4 = a.val)) := by
  decide +kernel

/-- A query reads the keys whose block is congruent to its own modulo four. -/
theorem maskT_at (i : Fin 256) (k : Fin 4096) : maskT (ix2 i k) = BitVec.ofBool (decide (k.val / 64 % 4 = i.val / 64)) := by
  pointwise [maskT, colQ, rowK, fdQ_at, fdK_at, remK_at, remQ_at]
  exact bit_at ⟨i.val / 64, by omega⟩ ⟨k.val / 64, by omega⟩

end Cert.ReferenceIdeal.Attn
-- ==== Proof.RefVal.lean ====
/- The reference's values, read at an index. -/
module

public import proofs.«01_k».proof.Proof.RefMask

@[expose] public section

set_option maxRecDepth 16384

noncomputable section

namespace Cert.ReferenceIdeal.Attn

open Cert.ReferenceIdeal Cert.ReferenceIdeal.Gen
open Idealize.ShloMosaic
open Idealize.ShloMosaic.TcCoe

variable (X : FVec Ideal S1x256x1024 .f32) (Wq : FVec Ideal S1024x8192 .f32) (K V : FVec Ideal S1x4096x64x128 .f32) (Wo : FVec Ideal S8192x1024 .f32)

/-- The scaled scores. -/
def scoresT : FVec Ideal S1x64x256x4096 .f32 :=
  (mulf (Host.dotGeneral dot_S1x256x64x128_S1x4096x64x128_S1x64x256x4096_3_3_1_1_02_02 none (shapeCast _ (Host.dotGeneral dot_S1x256x1024_S1024x8192_S1x256x8192_2_0_01_1_n_n none X Wq) shapeCasts_S1x256x8192_S1x256x64x128) K) (broadcastInDim S1x64x256x4096 ![] bcast_S_S1x64x256x4096 (constant S_ .f32 0x3DB504F3#32)))

/-- The scores with minus infinity where the mask is off. -/
def maskedT : FVec Ideal S1x64x256x4096 .f32 :=
  (select (broadcastInDim S1x64x256x4096 ![0, 1, 2, 3] bcast_S1x1x256x4096_S1x64x256x4096_0_1_2_3 (broadcastInDim S1x1x256x4096 ![2, 3] bcast_S256x4096_S1x1x256x4096_2_3 maskT)) (scoresT X Wq K) (broadcastInDim S1x64x256x4096 ![] bcast_S_S1x64x256x4096 (id (constant S_ .f32 0xFF800000#32))))

/-- Each row's greatest score. -/
def maxT : FVec Ideal S1x64x256 .f32 :=
  Host.reduce FloatOps.maximumf (maskedT X Wq K) (constant S_ .f32 0xFF800000#32) reducesTo_S1x64x256x4096_S1x64x256_d3 h_S_

/-- The exponentials. -/
def expT : FVec Ideal S1x64x256x4096 .f32 :=
  Host.exp (subf (maskedT X Wq K) (broadcastInDim S1x64x256x4096 ![0, 1, 2, 3] bcast_S1x64x256x1_S1x64x256x4096_0_1_2_3 (broadcastInDim S1x64x256x1 ![0, 1, 2] bcast_S1x64x256_S1x64x256x1_0_1_2 (maxT X Wq K))))

/-- Whether a query reads any key. -/
def keepT : IVec S256 1 := Host.reduce IntOp.ori maskT (constantI S_ 1 0#1) reducesTo_S256x4096_S256_d1 h_S_

/-- The weights of the values. -/
def weightT : FVec Ideal S1x64x256x4096 .f32 :=
  (select (broadcastInDim S1x64x256x4096 ![0, 1, 2, 3] bcast_S1x1x256x1_S1x64x256x4096_0_1_2_3 (broadcastInDim S1x1x256x1 ![2] bcast_S256_S1x1x256x1_2 keepT)) (Host.divf (expT X Wq K) (broadcastInDim S1x64x256x4096 ![0, 1, 2, 3] bcast_S1x64x256x1_S1x64x256x4096_0_1_2_3 (select (broadcastInDim S1x64x256x1 ![0, 1, 2, 3] bcast_S1x1x256x1_S1x64x256x1_0_1_2_3 (broadcastInDim S1x1x256x1 ![2] bcast_S256_S1x1x256x1_2 keepT)) (broadcastInDim S1x64x256x1 ![0, 1, 2] bcast_S1x64x256_S1x64x256x1_0_1_2 (Host.reduceAdd (expT X Wq K) (constant S_ .f32 0x00000000#32) reducesTo_S1x64x256x4096_S1x64x256_d3 h_S_)) (broadcastInDim S1x64x256x1 ![] bcast_S_S1x64x256x1 (id (constant S_ .f32 0x3F800000#32)))))) (broadcastInDim S1x64x256x4096 ![] bcast_S_S1x64x256x4096 (id (constant S_ .f32 0x00000000#32))))

/-- The attention. -/
def ctxT : FVec Ideal S1x64x128x256 .f32 :=
  Host.dotGeneral dot_S1x4096x64x128_S1x64x256x4096_S1x64x128x256_1_3_3_2_02_01 none V (weightT X Wq K)

/-- The reference's result. -/
def outT : FVec Ideal S1x256x1024 .f32 :=
  Host.dotGeneral dot_S1x256x8192_S8192x1024_S1x256x1024_2_0_01_1_n_n none (shapeCast _ (transpose S1x256x64x128 [0, 3, 1, 2] (ctxT X Wq K V) transposes_S1x64x128x256_S1x256x64x128_0_3_1_2) shapeCasts_S1x256x64x128_S1x256x8192) Wo

theorem res_eq (m : (ℓ : Loc nD τ sig) → Buf (Elt Ideal) ℓ) (c : Dev nD) :
    Value.res_main_v39 m c = outT (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- The scale of the scores. -/
abbrev sc : EReal := Ideal.ofBits .f32 0x3DB504F3#32

theorem ofBits_neg_inf : Ideal.ofBits .f32 0xFF800000#32 = ⊥ := by simp [Ideal.ofBits, Ideal.ieee]

/-- A disjunction of bits one of which is set is set. -/
theorem fold_or_one {n : ℕ} (p : Fin n → BitVec 1) (x : Fin n) (hx : p x = 1#1) :
    Finset.fold IntOp.ori (0#1) p Finset.univ = 1#1 := by
  rw [← Finset.insert_erase (Finset.mem_univ x), Finset.fold_insert (Finset.notMem_erase x _), hx]
  have h : ∀ b : BitVec 1, IntOp.ori 1#1 b = 1#1 := by decide
  exact h _

theorem scoresT_at (h : Fin 64) (i : Fin 256) (k : Fin 4096) :
    scoresT X Wq K (ix4 0 h i k)
      = (∑ e : Fin 128, (∑ a : Fin 1024, X (ix3 0 i a) * Wq (ix2 a ⟨h.val * 128 + e.val, by omega⟩)) * K (ix4 0 k h e)) * sc := by
  pointwise [scoresT]

theorem maskedT_at (h : Fin 64) (i : Fin 256) (k : Fin 4096) :
    maskedT X Wq K (ix4 0 h i k) = if k.val / 64 % 4 = i.val / 64 then scoresT X Wq K (ix4 0 h i k) else ⊥ := by
  pointwise [maskedT, maskT_at]
  rw [show id (constant (F := Ideal) S_ .f32 0xFF800000#32) ix0 = ⊥ from ofBits_neg_inf]

theorem maxT_at (h : Fin 64) (i : Fin 256) :
    maxT X Wq K (ix3 0 h i) = Finset.univ.fold max ⊥ (fun k : Fin 4096 => maskedT X Wq K (ix4 0 h i k)) := by
  pointwise [maxT]
  rw [ofBits_neg_inf]

theorem expT_at (h : Fin 64) (i : Fin 256) (k : Fin 4096) :
    expT X Wq K (ix4 0 h i k) = Ideal.exp (maskedT X Wq K (ix4 0 h i k) - maxT X Wq K (ix3 0 h i)) := by
  pointwise [expT]

theorem keepT_at (i : Fin 256) : keepT (ix1 i) = 1#1 := by
  pointwise [keepT, maskT_at]
  refine fold_or_one _ (⟨i.val / 64 * 64, by omega⟩ : Fin 4096) ?_
  rw [decide_eq_true (by show i.val / 64 * 64 / 64 % 4 = i.val / 64; omega)]
  rfl

theorem weightT_at (h : Fin 64) (i : Fin 256) (k : Fin 4096) :
    weightT X Wq K (ix4 0 h i k) = Ideal.div (expT X Wq K (ix4 0 h i k)) (∑ k : Fin 4096, expT X Wq K (ix4 0 h i k)) := by
  pointwise [weightT, keepT_at]

theorem ctxT_at (h : Fin 64) (d : Fin 128) (i : Fin 256) :
    ctxT X Wq K V (ix4 0 h d i) = ∑ k : Fin 4096, V (ix4 0 k h d) * weightT X Wq K (ix4 0 h i k) := by
  pointwise [ctxT]

theorem outT_at (i : Fin 256) (n : Fin 1024) :
    outT X Wq K V Wo (ix3 0 i n) = ∑ j : Fin 8192, ctxT X Wq K V (ix4 0 ⟨j.val / 128, by omega⟩ ⟨j.val % 128, by omega⟩ i) * Wo (ix2 j n) := by
  pointwise [outT]

end Cert.ReferenceIdeal.Attn
-- ==== Proof.Core.lean ====
/- The softmax attention, with and without the subtracted maximum. -/
module

public import Idealize.ShloMosaic.Lib.Pointwise

@[expose] public section

set_option maxRecDepth 16384

noncomputable section

namespace Cert.AttnMath

open Idealize.ShloMosaic

/-- A sum of reals is a real. -/
theorem coe_sum {ι : Type} (s : Finset ι) (f : ι → ℝ) : (∑ i ∈ s, (f i : EReal)) = ((∑ i ∈ s, f i : ℝ) : EReal) := by
  classical
  induction s using Finset.induction_on with
  | empty => simp
  | insert a t ha ih => rw [Finset.sum_insert ha, Finset.sum_insert ha, ih, EReal.coe_add]

/-- A factor that is a non-negative real distributes over any sum. -/
theorem mul_sum_coe {ι : Type} (s : Finset ι) (f : ι → EReal) (r : ℝ) (hr : 0 ≤ r) : (r : EReal) * ∑ i ∈ s, f i = ∑ i ∈ s, (r : EReal) * f i := by
  classical
  induction s using Finset.induction_on with
  | empty => simp
  | insert a t ha ih =>
    rw [Finset.sum_insert ha, Finset.sum_insert ha, EReal.left_distrib_of_nonneg_of_ne_top (by exact_mod_cast hr) (EReal.coe_ne_top r), ih]

/-- The reciprocal and the quotient of reals whose divisor is positive. -/
theorem div_coe (a b : ℝ) (hb : 0 < b) : Ideal.div (a : EReal) (b : EReal) = ((a / b : ℝ) : EReal) := by
  unfold Ideal.div
  rw [if_neg (by exact_mod_cast hb.ne'), div_eq_mul_inv, EReal.coe_mul, EReal.coe_inv]

/-- The greatest of finitely many entries, one of which is real and the others real or minus infinity, is real. -/
theorem max_real {n : ℕ} (u : Fin n → EReal) (k : Fin n) (hk : u k ≠ ⊥) (hu : ∀ k, u k ≠ ⊤) :
    ∃ M : ℝ, Finset.univ.fold max ⊥ u = (M : EReal) := by
  have h1 : u k ≤ Finset.univ.fold max ⊥ u := (Finset.le_fold_max _).2 (.inr ⟨k, Finset.mem_univ k, le_rfl⟩)
  have h2 : Finset.univ.fold max ⊥ u < ⊤ := (Finset.fold_max_lt _).2 ⟨bot_lt_top, fun x _ => lt_top_iff_ne_top.2 (hu x)⟩
  refine ⟨(Finset.univ.fold max ⊥ u).toReal, (EReal.coe_toReal h2.ne ?_).symm⟩
  intro e
  rw [e] at h1
  exact hk (le_bot_iff.1 h1)

/-- A sum over all the keys of terms that vanish off the image of `f` is the sum over `f`'s domain. -/
theorem sum_image {n p : ℕ} (f : Fin p → Fin n) (hf : Function.Injective f) (P : Fin n → Prop) (hP : ∀ k, P k ↔ ∃ j, f j = k)
    (g : Fin n → EReal) (hg : ∀ k, ¬ P k → g k = 0) : ∑ k, g k = ∑ j, g (f j) := by
  classical
  rw [← Finset.sum_subset (Finset.subset_univ (Finset.univ.image f))]
  · rw [Finset.sum_image fun a _ b _ h => hf h]
  · intro k _ hk
    refine hg k fun hp => hk ?_
    obtain ⟨j, hj⟩ := (hP k).1 hp
    exact Finset.mem_image.2 ⟨j, Finset.mem_univ j, hj⟩

/-- The softmax attention with the mask at minus infinity and the row's maximum subtracted is the sum over the selected
keys of the values weighted by the exponentials, times the reciprocal of the exponentials' sum. -/
theorem softmax_eq {n p : ℕ} (hp : 0 < p) (f : Fin p → Fin n) (hf : Function.Injective f) (P : Fin n → Prop) [DecidablePred P]
    (hP : ∀ k, P k ↔ ∃ j, f j = k) (t : Fin n → ℝ) (v : Fin n → EReal) (M : EReal)
    (hM : M = Finset.univ.fold max ⊥ (fun k => if P k then (t k : EReal) else ⊥)) :
    (∑ k, v k * Ideal.div (Ideal.exp ((if P k then (t k : EReal) else ⊥) - M))
        (∑ k, Ideal.exp ((if P k then (t k : EReal) else ⊥) - M)))
      = (∑ j, Ideal.exp (t (f j) : EReal) * v (f j)) * Ideal.div 1 (∑ j, Ideal.exp (t (f j) : EReal)) := by
  obtain ⟨R, hR⟩ : ∃ R : ℝ, M = (R : EReal) := by
    rw [hM]
    refine max_real _ (f ⟨0, hp⟩) ?_ ?_
    · rw [if_pos ((hP _).2 ⟨_, rfl⟩)]
      exact EReal.coe_ne_bot _
    · intro k
      split
      · exact EReal.coe_ne_top _
      · exact bot_ne_top
  clear hM
  subst hR
  have he : ∀ k, Ideal.exp ((if P k then (t k : EReal) else ⊥) - (R : EReal)) = ((if P k then Real.exp (t k - R) else 0 : ℝ) : EReal) := by
    intro k
    split
    · rw [← EReal.coe_sub, Ideal.exp_coe]
    · rw [EReal.bot_sub, Ideal.exp_bot, EReal.coe_zero]
  simp only [he]
  have hpos : ∀ r : Fin p → ℝ, 0 < ∑ j, Real.exp (r j) := fun r => by
    have : Nonempty (Fin p) := ⟨⟨0, hp⟩⟩
    exact Finset.sum_pos (fun j _ => Real.exp_pos _) Finset.univ_nonempty
  have hsum : (∑ k, ((if P k then Real.exp (t k - R) else 0 : ℝ) : EReal)) = ((∑ j, Real.exp (t (f j) - R) : ℝ) : EReal) := by
    rw [sum_image f hf P hP _ (fun k hk => by rw [if_neg hk, EReal.coe_zero]), ← coe_sum]
    exact Finset.sum_congr rfl fun j _ => by rw [if_pos ((hP _).2 ⟨j, rfl⟩)]
  rw [hsum]
  simp only [div_coe _ _ (hpos _)]
  rw [sum_image f hf P hP _ (fun k hk => by rw [if_neg hk, zero_div, EReal.coe_zero, mul_zero])]
  have hq : (∑ j, Ideal.exp (t (f j) : EReal)) = ((∑ j, Real.exp (t (f j)) : ℝ) : EReal) := by
    rw [← coe_sum]
    rfl
  rw [hq, ← EReal.coe_one, div_coe _ _ (hpos _), mul_comm, mul_sum_coe _ _ _ (one_div_pos.2 (hpos _)).le]
  refine Finset.sum_congr rfl fun j _ => ?_
  rw [if_pos ((hP _).2 ⟨j, rfl⟩), Ideal.exp_coe, ← mul_assoc, ← EReal.coe_mul, mul_comm]
  congr 2
  have hs : ∑ j, Real.exp (t (f j) - R) = (∑ j, Real.exp (t (f j))) * Real.exp (-R) := by
    rw [Finset.sum_mul]
    exact Finset.sum_congr rfl fun j _ => by rw [sub_eq_add_neg, Real.exp_add]
  rw [hs, sub_eq_add_neg, Real.exp_add, mul_div_mul_right _ _ (Real.exp_pos _).ne', one_div, div_eq_inv_mul]

end Cert.AttnMath
-- ==== Proof.Bridge.lean ====
/- The kernel's result equals the reference's where the activations, the query weights and the keys are finite. -/
module

public import proofs.«01_k».proof.Proof.ValDev
public import proofs.«01_k».proof.Proof.RefVal
public import proofs.«01_k».proof.Proof.Core

@[expose] public section

set_option maxRecDepth 16384

noncomputable section

namespace Cert.Bridge

open Idealize.ShloMosaic
open Idealize.ShloMosaic.TcCoe
open Cert.KernelIdeal.Ulysses (sc keyAt colAt)
open Cert.ReferenceIdeal.Attn (outT ctxT weightT expT maxT maskedT scoresT)
open Cert.AttnMath

/-- The scale is a real. -/
theorem sc_real : ∃ s : ℝ, sc = (s : EReal) := by
  unfold sc Ideal.ofBits Ideal.ieee
  simp only []
  rw [if_neg (by decide), if_neg (by decide)]
  exact ⟨_, rfl⟩

theorem keyAt_injective (q : Fin 4) : Function.Injective (keyAt q) := by
  intro a b h
  have e : a.val / 64 * 256 + q.val * 64 + a.val % 64 = b.val / 64 * 256 + q.val * 64 + b.val % 64 := congrArg Fin.val h
  apply Fin.ext
  omega

/-- The keys that a query block reads are those whose block is congruent to it modulo four. -/
theorem keyAt_iff (q : Fin 4) (k : Fin 4096) : k.val / 64 % 4 = q.val ↔ ∃ j, keyAt q j = k := by
  constructor
  · intro h
    refine ⟨⟨k.val / 256 * 64 + k.val % 64, by omega⟩, Fin.ext ?_⟩
    show (k.val / 256 * 64 + k.val % 64) / 64 * 256 + q.val * 64 + (k.val / 256 * 64 + k.val % 64) % 64 = k.val
    omega
  · rintro ⟨j, rfl⟩
    show (j.val / 64 * 256 + q.val * 64 + j.val % 64) / 64 % 4 = q.val
    omega

/-- Scaling the queries is scaling the scores, over the reals. -/
theorem scale_eq (q k : Fin 128 → ℝ) (s : ℝ) :
    (∑ e, ((q e : EReal) * (s : EReal)) * (k e : EReal)) = (((∑ e, q e * k e) * s : ℝ) : EReal)
    ∧ (∑ e, (q e : EReal) * (k e : EReal)) * (s : EReal) = (((∑ e, q e * k e) * s : ℝ) : EReal) := by
  constructor
  · rw [Finset.sum_mul, ← coe_sum]
    refine Finset.sum_congr rfl fun e _ => ?_
    rw [← EReal.coe_mul, ← EReal.coe_mul]
    congr 1
    ring
  · rw [EReal.coe_mul, ← coe_sum]
    congr 1

/-- A sum over consecutive blocks. -/
theorem sum_blocks {M : Type} [AddCommMonoid M] (a b : ℕ) (f : ℕ → M) :
    ∑ x : Fin (a * b), f x.val = ∑ i : Fin a, ∑ j : Fin b, f (i.val * b + j.val) := by
  rw [← Equiv.sum_comp finProdFinEquiv, Fintype.sum_prod_type]
  refine Finset.sum_congr rfl fun i _ => Finset.sum_congr rfl fun j _ => congrArg f ?_
  show j.val + b * i.val = i.val * b + j.val
  rw [Nat.mul_comm, Nat.add_comm]

section Attention

variable (m : (ℓ : Loc Cert.KernelIdeal.nD Cert.KernelIdeal.τ Cert.KernelIdeal.sig) → Buf (Elt Ideal) ℓ)
variable (X : FVec Ideal ⟨3, ![1, 256, 1024]⟩ .f32) (Wq : FVec Ideal ⟨2, ![1024, 8192]⟩ .f32)
  (K V : FVec Ideal ⟨4, ![1, 4096, 64, 128]⟩ .f32) (Wo : FVec Ideal ⟨2, ![8192, 1024]⟩ .f32)

/-- The head of device `c` in the whole array. -/
def headAt (c : Fin 8) (h : Fin 8) : Fin 64 := ⟨c.val * 8 + h.val, by omega⟩

/-- The devices' memories hold their parts of the whole arrays. -/
structure Holds : Prop where
  x : ∀ (c : Dev Cert.KernelIdeal.nD) i, (m ((c.tc : Thread Cert.KernelIdeal.nD Cert.KernelIdeal.τ).loc Cert.KernelIdeal.main_arg0) : FVec Ideal ⟨3, ![1, 256, 1024]⟩ .f32) i = X i
  wq : ∀ (c : Dev Cert.KernelIdeal.nD) i, (m ((c.tc : Thread Cert.KernelIdeal.nD Cert.KernelIdeal.τ).loc Cert.KernelIdeal.main_arg1) : FVec Ideal ⟨2, ![1024, 8192]⟩ .f32) i = Wq i
  k : ∀ (c : Dev Cert.KernelIdeal.nD) j h d, (m ((c.tc : Thread Cert.KernelIdeal.nD Cert.KernelIdeal.τ).loc Cert.KernelIdeal.main_arg2) : FVec Ideal ⟨4, ![1, 4096, 8, 128]⟩ .f32) (ix4 0 j h d) = K (ix4 0 j (headAt c h) d)
  v : ∀ (c : Dev Cert.KernelIdeal.nD) j h d, (m ((c.tc : Thread Cert.KernelIdeal.nD Cert.KernelIdeal.τ).loc Cert.KernelIdeal.main_arg3) : FVec Ideal ⟨4, ![1, 4096, 8, 128]⟩ .f32) (ix4 0 j h d) = V (ix4 0 j (headAt c h) d)
  wo : ∀ (c : Dev Cert.KernelIdeal.nD) i, (m ((c.tc : Thread Cert.KernelIdeal.nD Cert.KernelIdeal.τ).loc Cert.KernelIdeal.main_arg4) : FVec Ideal ⟨2, ![8192, 1024]⟩ .f32) i = Wo i

variable {m X Wq K V Wo} (H : Holds m X Wq K V Wo)
include H

/-- The scaled queries of a device. -/
theorem q_at (c : Dev Cert.KernelIdeal.nD) (i : Fin 256) (n : Fin 1024) :
    Cert.KernelIdeal.Ulysses.Qv m c (ix2 i n) = (∑ a : Fin 1024, X (ix3 0 i a) * Wq (ix2 a (colAt c n))) * sc := by
  unfold Cert.KernelIdeal.Ulysses.Qv
  rw [Cert.KernelIdeal.Ulysses.pay1_at]
  simp only [Cert.KernelIdeal.Ulysses.xv_at, Cert.KernelIdeal.Ulysses.wqv_at, H.x, H.wq]

variable {x : ∀ _ : (⟨3, ![1, 256, 1024]⟩ : Shape).Idx, ℝ} {w : ∀ _ : (⟨2, ![1024, 8192]⟩ : Shape).Idx, ℝ} {y : ∀ _ : (⟨4, ![1, 4096, 64, 128]⟩ : Shape).Idx, ℝ}
  (hx : ∀ i, X i = (x i : EReal)) (hw : ∀ i, Wq i = (w i : EReal)) (hy : ∀ i, K i = (y i : EReal))
include hx hw hy

/-- The attention of a device is the reference's, at the device's heads. -/
theorem ctx_eq (c : Fin 8) (i : Fin 256) (n : Fin 1024) :
    Cert.KernelIdeal.Ulysses.ctxv m c (ix2 i n)
      = ctxT X Wq K V (ix4 0 (headAt c ⟨n.val / 128, by omega⟩) ⟨n.val % 128, by omega⟩ i) := by
  obtain ⟨s, hs⟩ := sc_real
  rw [Cert.KernelIdeal.Ulysses.ctxv_at]
  unfold Cert.KernelIdeal.Ulysses.ctxBlk
  rw [Cert.KernelIdeal.Ulysses.attVal_at]
  generalize hh : (⟨n.val / 128, by omega⟩ : Fin 8) = h
  generalize hd : (⟨n.val % 128, by omega⟩ : Fin 128) = d
  generalize hq : (⟨i.val / 64, by omega⟩ : Fin 4) = q
  have hqv : i.val / 64 = q.val := congrArg Fin.val hq
  -- the real queries and scores
  let qr : Fin 128 → ℝ := fun e => ∑ a : Fin 1024, x (ix3 0 i a) * w (ix2 a ⟨(headAt c h).val * 128 + e.val, by omega⟩)
  let t : Fin 4096 → ℝ := fun k => (∑ e, qr e * y (ix4 0 k (headAt c h) e)) * s
  have hqr : ∀ e : Fin 128, (∑ a : Fin 1024, X (ix3 0 i a) * Wq (ix2 a ⟨(headAt c h).val * 128 + e.val, by omega⟩)) = (qr e : EReal) := by
    intro e
    rw [← coe_sum]
    exact Finset.sum_congr rfl fun a _ => by rw [hx, hw, EReal.coe_mul]
  have hrow : (⟨q.val * 64 + i.val % 64, by omega⟩ : Fin 256) = i := Fin.ext (by show q.val * 64 + i.val % 64 = i.val; omega)
  have hker : ∀ j, Cert.KernelIdeal.Ulysses.expScores (F := Ideal) q (Cert.KernelIdeal.Ulysses.unsq (Cert.KernelIdeal.Ulysses.kv2 m c h))
      (fun j => Cert.KernelIdeal.Ulysses.Qv m c ((Cert.KernelIdeal.Ulysses.blkR q h).emb j)) (ix2 ⟨i.val % 64, by omega⟩ j) = Ideal.exp (t (keyAt q j) : EReal) := by
    intro j
    rw [Cert.KernelIdeal.Ulysses.expScores_at]
    refine congrArg Ideal.exp ?_
    refine Eq.trans ?_ (scale_eq qr (fun e => y (ix4 0 (keyAt q j) (headAt c h) e)) s).1
    refine Finset.sum_congr rfl fun e _ => ?_
    rw [Cert.KernelIdeal.Ulysses.blk_at, q_at H, hrow, Cert.KernelIdeal.Ulysses.kv_at, H.k, hy, hs, ← hqr]
    have hc : colAt c ⟨h.val * 128 + e.val, by omega⟩ = ⟨(headAt c h).val * 128 + e.val, by omega⟩ :=
      Fin.ext (by show c.val * 1024 + (h.val * 128 + e.val) = (c.val * 8 + h.val) * 128 + e.val; omega)
    rw [hc]
  have hsc : ∀ k, scoresT X Wq K (ix4 0 (headAt c h) i k) = (t k : EReal) := by
    intro k
    rw [Cert.ReferenceIdeal.Attn.scoresT_at]
    refine Eq.trans ?_ (scale_eq qr (fun e => y (ix4 0 k (headAt c h) e)) s).2
    show _ * sc = _
    rw [hs]
    congr 1
    exact Finset.sum_congr rfl fun e _ => by rw [hqr, hy]
  have hmk : ∀ k, maskedT X Wq K (ix4 0 (headAt c h) i k) = if k.val / 64 % 4 = q.val then (t k : EReal) else ⊥ := by
    intro k
    rw [Cert.ReferenceIdeal.Attn.maskedT_at, hsc, hqv]
  simp only [hker, Cert.KernelIdeal.Ulysses.vv_at, H.v]
  rw [Cert.ReferenceIdeal.Attn.ctxT_at]
  simp only [Cert.ReferenceIdeal.Attn.weightT_at, Cert.ReferenceIdeal.Attn.expT_at, hmk]
  exact (softmax_eq (by decide) (keyAt q) (keyAt_injective q) (fun k => k.val / 64 % 4 = q.val) (keyAt_iff q) t
    (fun k => V (ix4 0 k (headAt c h) d)) _ (by
      rw [Cert.ReferenceIdeal.Attn.maxT_at]
      simp only [hmk])).symm

/-- The kernel's result is the reference's. -/
theorem out_eq : Cert.KernelIdeal.Ulysses.outv m = outT X Wq K V Wo := by
  funext j
  idx_vars j
  obtain rfl : j0 = 0 := Subsingleton.elim _ _
  rw [Cert.KernelIdeal.Ulysses.outv_at, Cert.ReferenceIdeal.Attn.outT_at]
  let g : ℕ → EReal := fun z => if hz : z < 8192 then ctxT X Wq K V (ix4 0 ⟨z / 128, by omega⟩ ⟨z % 128, by omega⟩ j1) * Wo (ix2 ⟨z, hz⟩ j2) else 0
  have hg : ∀ z : Fin 8192, ctxT X Wq K V (ix4 0 ⟨z.val / 128, by omega⟩ ⟨z.val % 128, by omega⟩ j1) * Wo (ix2 z j2) = g z.val := by
    intro z
    show _ = dite _ _ _
    rw [dif_pos z.isLt]
  simp only [hg]
  rw [sum_blocks 8 1024 g]
  refine Finset.sum_congr rfl fun c _ => ?_
  rw [sum_blocks 2 512 (fun z => g (c.val * 1024 + z))]
  refine Finset.sum_congr rfl fun b _ => Finset.sum_congr rfl fun j _ => ?_
  have hlt : c.val * 1024 + (b.val * 512 + j.val) < 8192 := by omega
  rw [ctx_eq H hx hw hy, Cert.KernelIdeal.Ulysses.wov_at, H.wo]
  show _ = dite _ _ _
  rw [dif_pos hlt]
  have e1 : headAt c ⟨(b.val * 512 + j.val) / 128, by omega⟩ = ⟨(c.val * 1024 + (b.val * 512 + j.val)) / 128, by omega⟩ :=
    Fin.ext (by show c.val * 8 + (b.val * 512 + j.val) / 128 = (c.val * 1024 + (b.val * 512 + j.val)) / 128; omega)
  have e2 : (⟨(b.val * 512 + j.val) % 128, by omega⟩ : Fin 128) = ⟨(c.val * 1024 + (b.val * 512 + j.val)) % 128, by omega⟩ :=
    Fin.ext (by show (b.val * 512 + j.val) % 128 = (c.val * 1024 + (b.val * 512 + j.val)) % 128; omega)
  rw [e1, e2]
  rfl

end Attention

end Cert.Bridge
-- ==== Proof.Algebraic.lean ====
/- The value claim: the kernel over the reals computes the reference, and the precondition read as real inputs. -/
module

public import Idealize.ShloMosaic.Lib.ReduceAll
public import proofs.«01_k».proof.Proof.Bridge
public import proofs.«01_k».proof.Proof.Frames

@[expose] public section

set_option maxRecDepth 16384

noncomputable section

namespace Cert.Proof

open Idealize.ShloMosaic Idealize.SL.Sem
open Cert.Bridge (Holds headAt)
open Cert.ReferenceIdeal.Attn (outT)

/-- A number whose absolute value is less than infinity is real. -/
theorem real_of_lt (a : EReal) (h : Ideal.cmp .olt (max a (-a)) (Ideal.ofBits .f32 0x7F800000#32) = 1#1) : a = (a.toReal : EReal) := by
  rw [show Ideal.ofBits .f32 0x7F800000#32 = ⊤ from by simp [Ideal.ofBits, Ideal.ieee]] at h
  have hl : max a (-a) < ⊤ := by
    by_contra hn
    simp [Ideal.cmp, hn] at h
  refine (EReal.coe_toReal ?_ ?_).symm
  · rintro rfl
    simp at hl
  · rintro rfl
    simp at hl

theorem real_congr {a b : EReal} (h : a = b) (e : a = (a.toReal : EReal)) : b = (b.toReal : EReal) := h ▸ e

theorem and_one {a b : BitVec 1} (h : a &&& b = 1#1) : a = 1#1 ∧ b = 1#1 := by
  revert h a b
  decide

section Pre

variable [Cert.Pre_finite_inputs_KernelIdeal.Facts]
variable {x : FVec Ideal ⟨3, ![1, 256, 1024]⟩ .f32} {w : FVec Ideal ⟨2, ![1024, 8192]⟩ .f32}
  {k v : FVec Ideal ⟨4, ![1, 4096, 8, 128]⟩ .f32} {o : FVec Ideal ⟨2, ![8192, 1024]⟩ .f32}

/-- The precondition says that the activations, the query weights and the keys are real. -/
theorem real_of_pre (h : Cert.Pre_finite_inputs_KernelIdeal.fn (F := Ideal) x w k v o = fun _ => 1#1) :
    (∀ i, x i = ((x i).toReal : EReal)) ∧ (∀ i, w i = ((w i).toReal : EReal)) ∧ (∀ i, k i = ((k i).toReal : EReal)) := by
  have e := congrFun h ix0
  unfold Cert.Pre_finite_inputs_KernelIdeal.fn at e
  obtain ⟨e', e3⟩ := and_one e
  obtain ⟨e1, e2⟩ := and_one e'
  haveI : Subsingleton Cert.Pre_finite_inputs_KernelIdeal.S_.Idx := ⟨fun a b => funext fun z => z.elim0⟩
  exact ⟨fun i => real_of_lt _ (Host.reduce_andi_all _ _ _ _ _ e1 i), fun i => real_of_lt _ (Host.reduce_andi_all _ _ _ _ _ e2 i),
    fun i => real_of_lt _ (Host.reduce_andi_all _ _ _ _ _ e3 i)⟩

end Pre

/-- A device's block of an array cut along the heads, at an index. -/
theorem block_at (c : Fin 8) (A : FVec Ideal ⟨4, ![1, 4096, 64, 128]⟩ .f32) (j : Fin 4096) (h : Fin 8) (d : Fin 128) :
    Layout.block ⟨4, ![1, 4096, 8, 128]⟩ ⟨4, ![1, 4096, 64, 128]⟩ 2 8 c A (by decide) (ix4 0 j h d) = A (ix4 0 j (headAt c h) d) := by
  rw [Layout.block_apply]
  refine congrArg A ?_
  funext a
  apply Fin.ext
  fin_cases a <;> rfl

/-- An array all of whose blocks are real is real. -/
theorem real_of_blocks (A : FVec Ideal ⟨4, ![1, 4096, 64, 128]⟩ .f32)
    (h : ∀ (c : Fin 8) j g d, A (ix4 0 j (headAt c g) d) = ((A (ix4 0 j (headAt c g) d)).toReal : EReal)) :
    ∀ i, A i = ((A i).toReal : EReal) := by
  intro i
  idx_vars i
  obtain rfl : i0 = 0 := Subsingleton.elim _ _
  have e := h ⟨i2.val / 8, by omega⟩ i1 ⟨i2.val % 8, by omega⟩ i3
  rwa [show headAt ⟨i2.val / 8, by omega⟩ ⟨i2.val % 8, by omega⟩ = i2 from
    Fin.ext (by show i2.val / 8 * 8 + i2.val % 8 = i2.val; omega)] at e

/-- The result window reads the whole array. -/
theorem read_out (B : FVec Ideal ⟨3, ![1, 256, 1024]⟩ .f32) :
    (Cert.KernelIdeal.win0_1.blk (0 : Fin 1)).view.read (Elt Ideal) B = B := by
  funext i
  refine congrArg B ?_
  idx_vars i
  obtain rfl : i0 = 0 := Subsingleton.elim _ _
  funext a
  apply Fin.ext
  fin_cases a
  · rfl
  · exact (Nat.zero_add _).trans (Nat.one_mul _)
  · exact (Nat.zero_add _).trans (Nat.one_mul _)

/-- The kernel over the reals gives the reference's array on every device. -/
theorem algebraic [Cert.Pre_finite_inputs_KernelIdeal.Facts] :
    Cert.algebraic_KernelIdeal_ReferenceIdeal_pre_finite_inputs_KernelIdeal := by
  intro m g m' g' hp ha
  refine ⟨outT (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · have H : Holds m _ _ _ _ _ := {
      x := fun c i => congrFun (ha c).1 i
      wq := fun c i => congrFun (ha c).2.1 i
      k := fun c j h d => (congrFun (ha c).2.2.1 (ix4 0 j h d)).trans (block_at c _ j h d)
      v := fun c j h d => (congrFun (ha c).2.2.2.1 (ix4 0 j h d)).trans (block_at c _ j h d)
      wo := fun c i => congrFun (ha c).2.2.2.2 i }
    have e := Cert.Bridge.out_eq H (fun i => real_congr (H.x 0 i) ((real_of_pre (hp 0)).1 i))
      (fun i => real_congr (H.wq 0 i) ((real_of_pre (hp 0)).2.1 i))
      (real_of_blocks _ fun c j h d => real_congr (H.k c j h d) ((real_of_pre (hp c)).2.2 (ix4 0 j h d)))
    exact (θ_run Cert.KernelIdeal.defs _ _).mono (fun _ h c =>
      ⟨((read_out _).symm.trans (h.1 c).2.2.2.2.2).trans e, (h.1 c).1, (h.1 c).2.1, (h.1 c).2.2.1, (h.1 c).2.2.2.1, (h.1 c).2.2.2.2.1⟩)
      (Cert.KernelIdeal.Ulysses.run_main (F := Ideal) m g)
  · exact (θ_run Cert.ReferenceIdeal.defs _ _).mono (fun _ h => ⟨(h 0).1.trans (Cert.ReferenceIdeal.Attn.res_eq m' 0), (h 0).2⟩)
      (Cert.ReferenceIdeal.Value.run (F := Ideal) m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_inputs_KernelIdeal
public import proofs.«01_k».proof.Proof.Gen.Pre_finite_inputs_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_inputs_KernelIdeal.Gen.facts, Cert.Pre_finite_inputs_ReferenceIdeal.Gen.facts,
  frame_kernel, frame_ideal, frame_ideal_pre, frame_reference, frame_reference_pre, trivial, algebraic⟩

end Cert.Proof

end
